-- ==== Defs.lean ====
def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernelIdeal : Cert.KernelIdeal.Facts) (hReferenceIdeal : Cert.ReferenceIdeal.Facts) (hPre_scores_finite : Cert.Pre_scores_finite.Facts),
    quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ algebraic_KernelIdeal_ReferenceIdeal_pre_scores_finite (hKernelIdeal := hKernelIdeal) (hReferenceIdeal := hReferenceIdeal) (hPre_scores_finite := hPre_scores_finite)
-- ==== Pre_scores_finite.lean ====
abbrev S22500x4 : Shape := ⟨2, ![22500, 4]⟩
abbrev S2500x18 : Shape := ⟨2, ![2500, 18]⟩
abbrev S2 : Shape := ⟨1, ![2]⟩
abbrev S_ : Shape := ⟨0, ![]⟩

class Facts : Prop where
  bcast_S_S2500x18 : S_.BroadcastsInDim S2500x18 (![] : Fin 0 → Fin S2500x18.rank)

variable [Facts]

def fn {F : FTy → Type} [FloatOps F] (main_arg0 : FVec F S22500x4 .f32) (main_arg1 : FVec F S22500x4 .f32) (main_arg2 : FVec F S2500x18 .f32) (main_arg3 : IVec S2 32) : IVec S2500x18 1 :=
  let main_v0 : FVec F S2500x18 .f32 := Host.absf main_arg2
  let main_cst : FVec F S_ .f32 := constant S_ .f32 0x7F800000#32
  let main_v1 : FVec F S2500x18 .f32 := broadcastInDim S2500x18 ![] bcast_S_S2500x18 main_cst
  let main_v2 : IVec S2500x18 1 := cmpf .olt main_v0 main_v1
  main_v2
-- ==== KernelIdeal.lean ====
abbrev S22500x4 : Shape := ⟨2, ![22500, 4]⟩
abbrev S2500x18 : Shape := ⟨2, ![2500, 18]⟩
abbrev S2 : Shape := ⟨1, ![2]⟩
abbrev S4 : Shape := ⟨1, ![4]⟩
abbrev S1x4 : Shape := ⟨2, ![1, 4]⟩
abbrev S22500x1 : Shape := ⟨2, ![22500, 1]⟩
abbrev S22500 : Shape := ⟨1, ![22500]⟩
abbrev S_ : Shape := ⟨0, ![]⟩
abbrev S1 : Shape := ⟨1, ![1]⟩
abbrev S2500x2x9 : Shape := ⟨3, ![2500, 2, 9]⟩
abbrev S2500x9x2 : Shape := ⟨3, ![2500, 9, 2]⟩
abbrev S22500x2 : Shape := ⟨2, ![22500, 2]⟩
abbrev S2500x9 : Shape := ⟨2, ![2500, 9]⟩
abbrev S22528 : Shape := ⟨1, ![22528]⟩
abbrev S176x128 : Shape := ⟨2, ![176, 128]⟩
abbrev S22528x1 : Shape := ⟨2, ![22528, 1]⟩
abbrev S22528x4 : Shape := ⟨2, ![22528, 4]⟩
abbrev S300x4 : Shape := ⟨2, ![300, 4]⟩
abbrev S6016x4 : Shape := ⟨2, ![6016, 4]⟩
abbrev S512x4 : Shape := ⟨2, ![512, 4]⟩
abbrev S512x1 : Shape := ⟨2, ![512, 1]⟩
abbrev S128x128 : Shape := ⟨2, ![128, 128]⟩
abbrev S1x128 : Shape := ⟨2, ![1, 128]⟩
abbrev S128x1 : Shape := ⟨2, ![128, 1]⟩
abbrev S128 : Shape := ⟨1, ![128]⟩
abbrev S128x4 : Shape := ⟨2, ![128, 4]⟩
abbrev S128x512 : Shape := ⟨2, ![128, 512]⟩
abbrev S512x128 : Shape := ⟨2, ![512, 128]⟩
abbrev S1x1x128 : Shape := ⟨3, ![1, 1, 128]⟩
abbrev S1x1x1 : Shape := ⟨3, ![1, 1, 1]⟩

abbrev nBuf : Space → Nat
  | .hbm => 145
  | .vmem => 8
  | .smem => 0
  | _ => 0

abbrev hbmTy0_0 (i : Nat) : BufTy := match i % 128 with
  | 0 => ⟨S22500x4, .f32⟩
  | 1 => ⟨S22500x4, .f32⟩
  | 2 => ⟨S2500x18, .f32⟩
  | 3 => ⟨S2, .i32⟩
  | 4 => ⟨S4, .f32⟩
  | 5 => ⟨S4, .f32⟩
  | 6 => ⟨S1x4, .f32⟩
  | 7 => ⟨S22500x4, .f32⟩
  | 8 => ⟨S22500x4, .f32⟩
  | 9 => ⟨S1x4, .f32⟩
  | 10 => ⟨S22500x4, .f32⟩
  | 11 => ⟨S22500x4, .f32⟩
  | 12 => ⟨S22500x1, .f32⟩
  | 13 => ⟨S22500, .f32⟩
  | 14 => ⟨S22500x1, .f32⟩
  | 15 => ⟨S22500, .f32⟩
  | 16 => ⟨S22500, .f32⟩
  | 17 => ⟨S22500x1, .f32⟩
  | 18 => ⟨S22500, .f32⟩
  | 19 => ⟨S22500x1, .f32⟩
  | 20 => ⟨S22500, .f32⟩
  | 21 => ⟨S22500, .f32⟩
  | 22 => ⟨S22500x1, .f32⟩
  | 23 => ⟨S22500, .f32⟩
  | 24 => ⟨S_, .f32⟩
  | 25 => ⟨S22500, .f32⟩
  | 26 => ⟨S22500, .f32⟩
  | 27 => ⟨S22500, .f32⟩
  | 28 => ⟨S22500x1, .f32⟩
  | 29 => ⟨S22500, .f32⟩
  | 30 => ⟨S_, .f32⟩
  | 31 => ⟨S22500, .f32⟩
  | 32 => ⟨S22500, .f32⟩
  | 33 => ⟨S22500, .f32⟩
  | 34 => ⟨S22500x1, .f32⟩
  | 35 => ⟨S22500, .f32⟩
  | 36 => ⟨S22500, .f32⟩
  | 37 => ⟨S22500, .f32⟩
  | 38 => ⟨S22500x1, .f32⟩
  | 39 => ⟨S22500, .f32⟩
  | 40 => ⟨S22500, .f32⟩
  | 41 => ⟨S22500, .f32⟩
  | 42 => ⟨S22500x1, .f32⟩
  | 43 => ⟨S22500, .f32⟩
  | 44 => ⟨S22500, .f32⟩
  | 45 => ⟨S22500, .f32⟩
  | 46 => ⟨S22500x1, .f32⟩
  | 47 => ⟨S22500, .f32⟩
  | 48 => ⟨S22500, .f32⟩
  | 49 => ⟨S22500, .f32⟩
  | 50 => ⟨S_, .f32⟩
  | 51 => ⟨S22500, .f32⟩
  | 52 => ⟨S22500, .f32⟩
  | 53 => ⟨S22500, .f32⟩
  | 54 => ⟨S_, .f32⟩
  | 55 => ⟨S22500, .f32⟩
  | 56 => ⟨S22500, .f32⟩
  | 57 => ⟨S22500, .f32⟩
  | 58 => ⟨S_, .f32⟩
  | 59 => ⟨S22500, .f32⟩
  | 60 => ⟨S22500, .f32⟩
  | 61 => ⟨S22500, .f32⟩
  | 62 => ⟨S_, .f32⟩
  | 63 => ⟨S22500, .f32⟩
  | 64 => ⟨S22500, .f32⟩
  | 65 => ⟨S22500, .f32⟩
  | 66 => ⟨S22500x1, .f32⟩
  | 67 => ⟨S22500x1, .f32⟩
  | 68 => ⟨S22500x1, .f32⟩
  | 69 => ⟨S22500x1, .f32⟩
  | 70 => ⟨S22500x4, .f32⟩
  | 71 => ⟨S1, .i32⟩
  | 72 => ⟨S_, .i32⟩
  | 73 => ⟨S_, .f32⟩
  | 74 => ⟨S1, .i32⟩
  | 75 => ⟨S_, .i32⟩
  | 76 => ⟨S_, .f32⟩
  | 77 => ⟨S22500x1, .f32⟩
  | 78 => ⟨S22500, .f32⟩
  | 79 => ⟨S_, .f32⟩
  | 80 => ⟨S_, .f32⟩
  | 81 => ⟨S22500, .f32⟩
  | 82 => ⟨S22500, .f32⟩
  | 83 => ⟨S22500, .f32⟩
  | 84 => ⟨S22500, .f32⟩
  | 85 => ⟨S22500x1, .f32⟩
  | 86 => ⟨S22500, .f32⟩
  | 87 => ⟨S_, .f32⟩
  | 88 => ⟨S_, .f32⟩
  | 89 => ⟨S22500, .f32⟩
  | 90 => ⟨S22500, .f32⟩
  | 91 => ⟨S22500, .f32⟩
  | 92 => ⟨S22500, .f32⟩
  | 93 => ⟨S22500x1, .f32⟩
  | 94 => ⟨S22500, .f32⟩
  | 95 => ⟨S_, .f32⟩
  | 96 => ⟨S_, .f32⟩
  | 97 => ⟨S22500, .f32⟩
  | 98 => ⟨S22500, .f32⟩
  | 99 => ⟨S22500, .f32⟩
  | 100 => ⟨S22500, .f32⟩
  | 101 => ⟨S22500x1, .f32⟩
  | 102 => ⟨S22500, .f32⟩
  | 103 => ⟨S_, .f32⟩
  | 104 => ⟨S_, .f32⟩
  | 105 => ⟨S22500, .f32⟩
  | 106 => ⟨S22500, .f32⟩
  | 107 => ⟨S22500, .f32⟩
  | 108 => ⟨S22500, .f32⟩
  | 109 => ⟨S22500x1, .f32⟩
  | 110 => ⟨S22500x1, .f32⟩
  | 111 => ⟨S22500x1, .f32⟩
  | 112 => ⟨S22500x1, .f32⟩
  | 113 => ⟨S22500x4, .f32⟩
  | 114 => ⟨S2500x2x9, .f32⟩
  | 115 => ⟨S2500x9x2, .f32⟩
  | 116 => ⟨S22500x2, .f32⟩
  | 117 => ⟨S_, .f32⟩
  | 118 => ⟨S22500, .f32⟩
  | 119 => ⟨S_, .f32⟩
  | 120 => ⟨S22500, .f32⟩
  | 121 => ⟨S22500, .f32⟩
  | 122 => ⟨S22500x1, .f32⟩
  | 123 => ⟨S22500x2, .f32⟩
  | 124 => ⟨S22500x2, .f32⟩
  | 125 => ⟨S22500x2, .f32⟩
  | 126 => ⟨S_, .f32⟩
  | 127 => ⟨S22500, .f32⟩
  | _ => ⟨S22500x4, .f32⟩

abbrev hbmTy0_1 (i : Nat) : BufTy := match i % 128 with
  | 0 => ⟨S22500x1, .f32⟩
  | 1 => ⟨S22500x2, .f32⟩
  | 2 => ⟨S22500x2, .f32⟩
  | 3 => ⟨S2500x9x2, .f32⟩
  | 4 => ⟨S2500x2x9, .f32⟩
  | 5 => ⟨S2500x18, .f32⟩
  | 6 => ⟨S2500x9, .f32⟩
  | 7 => ⟨S22500, .f32⟩
  | 8 => ⟨S_, .f32⟩
  | 9 => ⟨S_, .f32⟩
  | 10 => ⟨S22528, .f32⟩
  | 11 => ⟨S176x128, .f32⟩
  | 12 => ⟨S22528x1, .f32⟩
  | 13 => ⟨S_, .i32⟩
  | 14 => ⟨S_, .f32⟩
  | 15 => ⟨S22528x4, .f32⟩
  | 16 => ⟨S300x4, .f32⟩
  | _ => ⟨S22500x4, .f32⟩

abbrev hbmTy (i : Nat) : BufTy := match i / 128 with
  | 0 => hbmTy0_0 i
  | 1 => hbmTy0_1 i
  | _ => ⟨S22500x4, .f32⟩

abbrev bufTy : (tb : Table) → Fin (tcTables nBuf tb) → BufTy
  | .hbm, ⟨i, _⟩ => hbmTy i
  | .local _ .vmem, ⟨0, _⟩ => ⟨S176x128, .f32⟩
  | .local _ .vmem, ⟨1, _⟩ => ⟨S22528x1, .f32⟩
  | .local _ .vmem, ⟨2, _⟩ => ⟨S22528x4, .f32⟩
  | .local _ .vmem, ⟨3, _⟩ => ⟨S300x4, .f32⟩
  | .local _ .vmem, ⟨4, _⟩ => ⟨S22528x1, .f32⟩
  | .local _ .vmem, ⟨5, _⟩ => ⟨S6016x4, .f32⟩
  | .local _ .vmem, ⟨6, _⟩ => ⟨S512x4, .f32⟩
  | .local _ .vmem, ⟨7, _⟩ => ⟨S512x1, .f32⟩
  | _, _ => ⟨S22500x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_3 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_4 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_5 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_6 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_cst_7 : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_8 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_call1_v3 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_9 : Ref sig .tc := ⟨.hbm, 95, rfl⟩
abbrev main_call2_v0 : Ref sig .tc := ⟨.hbm, 96, rfl⟩
abbrev main_call2_v1 : Ref sig .tc := ⟨.hbm, 97, rfl⟩
abbrev main_call2_v2 : Ref sig .tc := ⟨.hbm, 98, rfl⟩
abbrev main_call2_v3 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_10 : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_call3_v3 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_11 : Ref sig .tc := ⟨.hbm, 117, rfl⟩
abbrev main_v85 : Ref sig .tc := ⟨.hbm, 118, rfl⟩
abbrev main_cst_12 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_13 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_14 : Ref sig .tc := ⟨.hbm, 136, rfl⟩
abbrev main_call4_v0 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_c : Ref sig .tc := ⟨.hbm, 141, rfl⟩
abbrev main_call5_v0 : Ref sig .tc := ⟨.hbm, 142, rfl⟩
abbrev main_v104 : Ref sig .tc := ⟨.hbm, 143, rfl⟩
abbrev main_v105 : Ref sig .tc := ⟨.hbm, 144, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c176_i32 : BitVec 32 := 176#32
  let v13 : BitVec 32 := Scalar.addi c0_i32 c176_i32
  let c1_i32 : BitVec 32 := 1#32
  ⟨c0_i32, v13, c1_i32⟩
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let v35 : Index := Scalar.indexCast arg8
  let c0_20 : Index := 0#32
  ![v35.toNat, 0]
@[reducible] def k0_t2_loop (k0_t1 : Fin k0_t1_loop.trips) : Scf.Loop 32 :=
  let c0_i32_22 : BitVec 32 := 0#32
  let c0_i32 : BitVec 32 := 0#32
  let c1_i32 : BitVec 32 := 1#32
  let arg8 : BitVec 32 := Scf.iv c0_i32 c1_i32 k0_t1
  let v39 : BitVec 32 := Scalar.subi arg8 c0_i32_22
  let c1_i32_23 : BitVec 32 := 1#32
  let v41 : BitVec 32 := Scalar.divsi v39 c1_i32_23
  let v42 : BitVec 32 := Scalar.muli v41 c1_i32_23
  let v43 : BitVec 32 := Scalar.addi c0_i32_22 v42
  let c1_i32_24 : BitVec 32 := 1#32
  ⟨c0_i32_22, v43, c1_i32_24⟩
def k0_off2 (k0_t1 : Fin k0_t1_loop.trips) (k0_t2 : Fin (k0_t2_loop k0_t1).trips) : Fin 2 → Nat :=
  let c0_i32_22 : BitVec 32 := 0#32
  let c1_i32_24 : BitVec 32 := 1#32
  let arg9 : BitVec 32 := Scf.iv c0_i32_22 c1_i32_24 k0_t2
  let c128_i32_36 : BitVec 32 := 128#32
  let v80 : BitVec 32 := Scalar.muli arg9 c128_i32_36
  let v81 : Index := Scalar.indexCast v80
  let c0_37 : Index := 0#32
  ![v81.toNat, 0]
@[reducible] def k0_t3_loop (k0_t1 : Fin k0_t1_loop.trips) : Scf.Loop 32 :=
  let c0_i32_22 : BitVec 32 := 0#32
  let c0_i32 : BitVec 32 := 0#32
  let c1_i32 : BitVec 32 := 1#32
  let arg8 : BitVec 32 := Scf.iv c0_i32 c1_i32 k0_t1
  let v39 : BitVec 32 := Scalar.subi arg8 c0_i32_22
  let c1_i32_23 : BitVec 32 := 1#32
  let v41 : BitVec 32 := Scalar.divsi v39 c1_i32_23
  let v42 : BitVec 32 := Scalar.muli v41 c1_i32_23
  let v43 : BitVec 32 := Scalar.addi c0_i32_22 v42
  let v40 : BitVec 32 := Scalar.addi c0_i32_22 v39
  let c1_i32_25 : BitVec 32 := 1#32
  ⟨v43, v40, c1_i32_25⟩
def k0_off3 (k0_t1 : Fin k0_t1_loop.trips) (k0_t3 : Fin (k0_t3_loop k0_t1).trips) : Fin 2 → Nat :=
  let c0_i32_22 : BitVec 32 := 0#32
  let c0_i32 : BitVec 32 := 0#32
  let c1_i32 : BitVec 32 := 1#32
  let arg8 : BitVec 32 := Scf.iv c0_i32 c1_i32 k0_t1
  let v39 : BitVec 32 := Scalar.subi arg8 c0_i32_22
  let c1_i32_23 : BitVec 32 := 1#32
  let v41 : BitVec 32 := Scalar.divsi v39 c1_i32_23
  let v42 : BitVec 32 := Scalar.muli v41 c1_i32_23
  let v43 : BitVec 32 := Scalar.addi c0_i32_22 v42
  let c1_i32_25 : BitVec 32 := 1#32
  let arg9 : BitVec 32 := Scf.iv v43 c1_i32_25 k0_t3
  let c128_i32_36 : BitVec 32 := 128#32
  let v80 : BitVec 32 := Scalar.muli arg9 c128_i32_36
  let v81 : Index := Scalar.indexCast v80
  let c0_37 : Index := 0#32
  ![v81.toNat, 0]
@[reducible] def k0_t4_loop (k0_t1 : Fin k0_t1_loop.trips) : Scf.Loop 32 :=
  let c0_i32 : BitVec 32 := 0#32
  let c1_i32 : BitVec 32 := 1#32
  let arg8 : BitVec 32 := Scf.iv c0_i32 c1_i32 k0_t1
  let c1_i32_26 : BitVec 32 := 1#32
  let v46 : BitVec 32 := Scalar.addi arg8 c1_i32_26
  let c176_i32_27 : BitVec 32 := 176#32
  let v47 : BitVec 32 := Scalar.subi c176_i32_27 v46
  let c1_i32_28 : BitVec 32 := 1#32
  let v49 : BitVec 32 := Scalar.divsi v47 c1_i32_28
  let v50 : BitVec 32 := Scalar.muli v49 c1_i32_28
  let v51 : BitVec 32 := Scalar.addi v46 v50
  let c1_i32_29 : BitVec 32 := 1#32
  ⟨v46, v51, c1_i32_29⟩
def k0_off4 (k0_t1 : Fin k0_t1_loop.trips) (k0_t4 : Fin (k0_t4_loop k0_t1).trips) : Fin 2 → Nat :=
  let c0_i32 : BitVec 32 := 0#32
  let c1_i32 : BitVec 32 := 1#32
  let arg8 : BitVec 32 := Scf.iv c0_i32 c1_i32 k0_t1
  let c1_i32_26 : BitVec 32 := 1#32
  let v46 : BitVec 32 := Scalar.addi arg8 c1_i32_26
  let c1_i32_29 : BitVec 32 := 1#32
  let arg9 : BitVec 32 := Scf.iv v46 c1_i32_29 k0_t4
  let c128_i32_36 : BitVec 32 := 128#32
  let v80 : BitVec 32 := Scalar.muli arg9 c128_i32_36
  let v81 : Index := Scalar.indexCast v80
  let c0_37 : Index := 0#32
  ![v81.toNat, 0]
@[reducible] def k0_t5_loop (k0_t1 : Fin k0_t1_loop.trips) : Scf.Loop 32 :=
  let c0_i32 : BitVec 32 := 0#32
  let c1_i32 : BitVec 32 := 1#32
  let arg8 : BitVec 32 := Scf.iv c0_i32 c1_i32 k0_t1
  let c1_i32_26 : BitVec 32 := 1#32
  let v46 : BitVec 32 := Scalar.addi arg8 c1_i32_26
  let c176_i32_27 : BitVec 32 := 176#32
  let v47 : BitVec 32 := Scalar.subi c176_i32_27 v46
  let c1_i32_28 : BitVec 32 := 1#32
  let v49 : BitVec 32 := Scalar.divsi v47 c1_i32_28
  let v50 : BitVec 32 := Scalar.muli v49 c1_i32_28
  let v51 : BitVec 32 := Scalar.addi v46 v50
  let v48 : BitVec 32 := Scalar.addi v46 v47
  let c1_i32_30 : BitVec 32 := 1#32
  ⟨v51, v48, c1_i32_30⟩
def k0_off5 (k0_t1 : Fin k0_t1_loop.trips) (k0_t5 : Fin (k0_t5_loop k0_t1).trips) : Fin 2 → Nat :=
  let c0_i32 : BitVec 32 := 0#32
  let c1_i32 : BitVec 32 := 1#32
  let arg8 : BitVec 32 := Scf.iv c0_i32 c1_i32 k0_t1
  let c1_i32_26 : BitVec 32 := 1#32
  let v46 : BitVec 32 := Scalar.addi arg8 c1_i32_26
  let c176_i32_27 : BitVec 32 := 176#32
  let v47 : BitVec 32 := Scalar.subi c176_i32_27 v46
  let c1_i32_28 : BitVec 32 := 1#32
  let v49 : BitVec 32 := Scalar.divsi v47 c1_i32_28
  let v50 : BitVec 32 := Scalar.muli v49 c1_i32_28
  let v51 : BitVec 32 := Scalar.addi v46 v50
  let c1_i32_30 : BitVec 32 := 1#32
  let arg9 : BitVec 32 := Scf.iv v51 c1_i32_30 k0_t5
  let c128_i32_36 : BitVec 32 := 128#32
  let v80 : BitVec 32 := Scalar.muli arg9 c128_i32_36
  let v81 : Index := Scalar.indexCast v80
  let c0_37 : Index := 0#32
  ![v81.toNat, 0]
def k0_off6 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v54 : BitVec 32 := Scalar.muli arg8 c128_i32
  let v55 : Index := Scalar.indexCast v54
  let c0_31 : Index := 0#32
  ![v55.toNat, 0]
@[reducible] def k0_t6_loop : Scf.Loop 32 :=
  let c0_i32_2 : BitVec 32 := 0#32
  let c176_i32_3 : BitVec 32 := 176#32
  let v18 : BitVec 32 := Scalar.addi c0_i32_2 c176_i32_3
  let c1_i32_4 : BitVec 32 := 1#32
  ⟨c0_i32_2, v18, c1_i32_4⟩
def k0_off7 (k0_t6 : Fin k0_t6_loop.trips) : Fin 2 → Nat :=
  let c0_i32_2 : BitVec 32 := 0#32
  let c1_i32_4 : BitVec 32 := 1#32
  let arg8 : BitVec 32 := Scf.iv c0_i32_2 c1_i32_4 k0_t6
  let c128_i32 : BitVec 32 := 128#32
  let v35 : BitVec 32 := Scalar.muli arg8 c128_i32
  let v36 : Index := Scalar.indexCast v35
  let c0_20 : Index := 0#32
  ![v36.toNat, 0]
def k0_off8 (k0_t6 : Fin k0_t6_loop.trips) : Fin 2 → Nat :=
  let c0_i32_2 : BitVec 32 := 0#32
  let c1_i32_4 : BitVec 32 := 1#32
  let arg8 : BitVec 32 := Scf.iv c0_i32_2 c1_i32_4 k0_t6
  let c128_i32_21 : BitVec 32 := 128#32
  let v38 : BitVec 32 := Scalar.muli arg8 c128_i32_21
  let v39 : Index := Scalar.indexCast v38
  let c0_22 : Index := 0#32
  ![v39.toNat, 0]
@[reducible] def k0_t7_loop : Scf.Loop 32 :=
  let c0_i32_23 : BitVec 32 := 0#32
  let c47_i32_24 : BitVec 32 := 47#32
  let v42 : BitVec 32 := Scalar.addi c0_i32_23 c47_i32_24
  let c1_i32_25 : BitVec 32 := 1#32
  ⟨c0_i32_23, v42, c1_i32_25⟩
def k0_off9 (k0_t7 : Fin k0_t7_loop.trips) : Fin 2 → Nat :=
  let c0_i32_23 : BitVec 32 := 0#32
  let c1_i32_25 : BitVec 32 := 1#32
  let arg9 : BitVec 32 := Scf.iv c0_i32_23 c1_i32_25 k0_t7
  let c128_i32_31 : BitVec 32 := 128#32
  let v54 : BitVec 32 := Scalar.muli arg9 c128_i32_31
  let v55 : Index := Scalar.indexCast v54
  let c0_32 : Index := 0#32
  ![v55.toNat, 0]
@[reducible] def k0_t8_loop : Scf.Loop 32 :=
  let c0_i32_13 : BitVec 32 := 0#32
  let c47_i32 : BitVec 32 := 47#32
  let v31 : BitVec 32 := Scalar.addi c0_i32_13 c47_i32
  let c1_i32_14 : BitVec 32 := 1#32
  ⟨c0_i32_13, v31, c1_i32_14⟩
def k0_off10 (k0_t8 : Fin k0_t8_loop.trips) : Fin 2 → Nat :=
  let c0_i32_13 : BitVec 32 := 0#32
  let c1_i32_14 : BitVec 32 := 1#32
  let arg8 : BitVec 32 := Scf.iv c0_i32_13 c1_i32_14 k0_t8
  let c128_i32 : BitVec 32 := 128#32
  let v38 : BitVec 32 := Scalar.muli arg8 c128_i32
  let v39 : Index := Scalar.indexCast v38
  let c0_21 : Index := 0#32
  ![v39.toNat, 0]
abbrev stage0_0 : Fin 1 → Memref sig .tc .vmem S176x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S22528x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S22528x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S300x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S22500x4 : Shape := ⟨2, ![22500, 4]⟩
abbrev S2500x18 : Shape := ⟨2, ![2500, 18]⟩
abbrev S2 : Shape := ⟨1, ![2]⟩
abbrev S4 : Shape := ⟨1, ![4]⟩
abbrev S1x4 : Shape := ⟨2, ![1, 4]⟩
abbrev S22500x1 : Shape := ⟨2, ![22500, 1]⟩
abbrev S22500 : Shape := ⟨1, ![22500]⟩
abbrev S_ : Shape := ⟨0, ![]⟩
abbrev S1 : Shape := ⟨1, ![1]⟩
abbrev S2500x2x9 : Shape := ⟨3, ![2500, 2, 9]⟩
abbrev S2500x9x2 : Shape := ⟨3, ![2500, 9, 2]⟩
abbrev S22500x2 : Shape := ⟨2, ![22500, 2]⟩
abbrev S2500x9 : Shape := ⟨2, ![2500, 9]⟩
abbrev S6000 : Shape := ⟨1, ![6000]⟩
abbrev S6000x1 : Shape := ⟨2, ![6000, 1]⟩
abbrev S6000x4 : Shape := ⟨2, ![6000, 4]⟩
abbrev S300 : Shape := ⟨1, ![300]⟩
abbrev S300x1 : Shape := ⟨2, ![300, 1]⟩
abbrev S300x4 : Shape := ⟨2, ![300, 4]⟩

abbrev nBuf : Space → Nat
  | .hbm => 333
  | .vmem => 0
  | .smem => 0
  | _ => 0

abbrev hbmTy0_0 (i : Nat) : BufTy := match i % 128 with
  | 0 => ⟨S22500x4, .f32⟩
  | 1 => ⟨S22500x4, .f32⟩
  | 2 => ⟨S2500x18, .f32⟩
  | 3 => ⟨S2, .i32⟩
  | 4 => ⟨S4, .f32⟩
  | 5 => ⟨S4, .f32⟩
  | 6 => ⟨S1x4, .f32⟩
  | 7 => ⟨S22500x4, .f32⟩
  | 8 => ⟨S22500x4, .f32⟩
  | 9 => ⟨S1x4, .f32⟩
  | 10 => ⟨S22500x4, .f32⟩
  | 11 => ⟨S22500x4, .f32⟩
  | 12 => ⟨S22500x1, .f32⟩
  | 13 => ⟨S22500, .f32⟩
  | 14 => ⟨S22500x1, .f32⟩
  | 15 => ⟨S22500, .f32⟩
  | 16 => ⟨S22500, .f32⟩
  | 17 => ⟨S22500x1, .f32⟩
  | 18 => ⟨S22500, .f32⟩
  | 19 => ⟨S22500x1, .f32⟩
  | 20 => ⟨S22500, .f32⟩
  | 21 => ⟨S22500, .f32⟩
  | 22 => ⟨S22500x1, .f32⟩
  | 23 => ⟨S22500, .f32⟩
  | 24 => ⟨S_, .f32⟩
  | 25 => ⟨S22500, .f32⟩
  | 26 => ⟨S22500, .f32⟩
  | 27 => ⟨S22500, .f32⟩
  | 28 => ⟨S22500x1, .f32⟩
  | 29 => ⟨S22500, .f32⟩
  | 30 => ⟨S_, .f32⟩
  | 31 => ⟨S22500, .f32⟩
  | 32 => ⟨S22500, .f32⟩
  | 33 => ⟨S22500, .f32⟩
  | 34 => ⟨S22500x1, .f32⟩
  | 35 => ⟨S22500, .f32⟩
  | 36 => ⟨S22500, .f32⟩
  | 37 => ⟨S22500, .f32⟩
  | 38 => ⟨S22500x1, .f32⟩
  | 39 => ⟨S22500, .f32⟩
  | 40 => ⟨S22500, .f32⟩
  | 41 => ⟨S22500, .f32⟩
  | 42 => ⟨S22500x1, .f32⟩
  | 43 => ⟨S22500, .f32⟩
  | 44 => ⟨S22500, .f32⟩
  | 45 => ⟨S22500, .f32⟩
  | 46 => ⟨S22500x1, .f32⟩
  | 47 => ⟨S22500, .f32⟩
  | 48 => ⟨S22500, .f32⟩
  | 49 => ⟨S22500, .f32⟩
  | 50 => ⟨S_, .f32⟩
  | 51 => ⟨S22500, .f32⟩
  | 52 => ⟨S22500, .f32⟩
  | 53 => ⟨S22500, .f32⟩
  | 54 => ⟨S_, .f32⟩
  | 55 => ⟨S22500, .f32⟩
  | 56 => ⟨S22500, .f32⟩
  | 57 => ⟨S22500, .f32⟩
  | 58 => ⟨S_, .f32⟩
  | 59 => ⟨S22500, .f32⟩
  | 60 => ⟨S22500, .f32⟩
  | 61 => ⟨S22500, .f32⟩
  | 62 => ⟨S_, .f32⟩
  | 63 => ⟨S22500, .f32⟩
  | 64 => ⟨S22500, .f32⟩
  | 65 => ⟨S22500, .f32⟩
  | 66 => ⟨S22500x1, .f32⟩
  | 67 => ⟨S22500x1, .f32⟩
  | 68 => ⟨S22500x1, .f32⟩
  | 69 => ⟨S22500x1, .f32⟩
  | 70 => ⟨S22500x4, .f32⟩
  | 71 => ⟨S1, .i32⟩
  | 72 => ⟨S_, .i32⟩
  | 73 => ⟨S_, .f32⟩
  | 74 => ⟨S1, .i32⟩
  | 75 => ⟨S_, .i32⟩
  | 76 => ⟨S_, .f32⟩
  | 77 => ⟨S22500x1, .f32⟩
  | 78 => ⟨S22500, .f32⟩
  | 79 => ⟨S_, .f32⟩
  | 80 => ⟨S_, .f32⟩
  | 81 => ⟨S22500, .f32⟩
  | 82 => ⟨S22500, .f32⟩
  | 83 => ⟨S22500, .f32⟩
  | 84 => ⟨S22500, .f32⟩
  | 85 => ⟨S22500x1, .f32⟩
  | 86 => ⟨S22500, .f32⟩
  | 87 => ⟨S_, .f32⟩
  | 88 => ⟨S_, .f32⟩
  | 89 => ⟨S22500, .f32⟩
  | 90 => ⟨S22500, .f32⟩
  | 91 => ⟨S22500, .f32⟩
  | 92 => ⟨S22500, .f32⟩
  | 93 => ⟨S22500x1, .f32⟩
  | 94 => ⟨S22500, .f32⟩
  | 95 => ⟨S_, .f32⟩
  | 96 => ⟨S_, .f32⟩
  | 97 => ⟨S22500, .f32⟩
  | 98 => ⟨S22500, .f32⟩
  | 99 => ⟨S22500, .f32⟩
  | 100 => ⟨S22500, .f32⟩
  | 101 => ⟨S22500x1, .f32⟩
  | 102 => ⟨S22500, .f32⟩
  | 103 => ⟨S_, .f32⟩
  | 104 => ⟨S_, .f32⟩
  | 105 => ⟨S22500, .f32⟩
  | 106 => ⟨S22500, .f32⟩
  | 107 => ⟨S22500, .f32⟩
  | 108 => ⟨S22500, .f32⟩
  | 109 => ⟨S22500x1, .f32⟩
  | 110 => ⟨S22500x1, .f32⟩
  | 111 => ⟨S22500x1, .f32⟩
  | 112 => ⟨S22500x1, .f32⟩
  | 113 => ⟨S22500x4, .f32⟩
  | 114 => ⟨S2500x2x9, .f32⟩
  | 115 => ⟨S2500x9x2, .f32⟩
  | 116 => ⟨S22500x2, .f32⟩
  | 117 => ⟨S_, .f32⟩
  | 118 => ⟨S22500, .f32⟩
  | 119 => ⟨S_, .f32⟩
  | 120 => ⟨S22500, .f32⟩
  | 121 => ⟨S22500, .f32⟩
  | 122 => ⟨S22500x1, .f32⟩
  | 123 => ⟨S22500x2, .f32⟩
  | 124 => ⟨S22500x2, .f32⟩
  | 125 => ⟨S22500x2, .f32⟩
  | 126 => ⟨S_, .f32⟩
  | 127 => ⟨S22500, .f32⟩
  | _ => ⟨S22500x4, .f32⟩

abbrev hbmTy0_1 (i : Nat) : BufTy := match i % 128 with
  | 0 => ⟨S22500x1, .f32⟩
  | 1 => ⟨S22500x2, .f32⟩
  | 2 => ⟨S22500x2, .f32⟩
  | 3 => ⟨S2500x9x2, .f32⟩
  | 4 => ⟨S2500x2x9, .f32⟩
  | 5 => ⟨S2500x18, .f32⟩
  | 6 => ⟨S2500x9, .f32⟩
  | 7 => ⟨S22500, .f32⟩
  | 8 => ⟨S6000, .f32⟩
  | 9 => ⟨S6000, .i32⟩
  | 10 => ⟨S_, .i32⟩
  | 11 => ⟨S6000, .i32⟩
  | 12 => ⟨S6000, .i1⟩
  | 13 => ⟨S_, .i32⟩
  | 14 => ⟨S6000, .i32⟩
  | 15 => ⟨S6000, .i32⟩
  | 16 => ⟨S6000, .i32⟩
  | 17 => ⟨S6000x1, .i32⟩
  | 18 => ⟨S6000x4, .f32⟩
  | 19 => ⟨S6000, .f32⟩
  | 20 => ⟨S6000, .i32⟩
  | 21 => ⟨S6000, .f32⟩
  | 22 => ⟨S6000, .i32⟩
  | 23 => ⟨S_, .i32⟩
  | 24 => ⟨S6000, .i32⟩
  | 25 => ⟨S6000, .i1⟩
  | 26 => ⟨S_, .i32⟩
  | 27 => ⟨S6000, .i32⟩
  | 28 => ⟨S6000, .i32⟩
  | 29 => ⟨S6000, .i32⟩
  | 30 => ⟨S6000x1, .i32⟩
  | 31 => ⟨S6000x4, .f32⟩
  | 32 => ⟨S6000x1, .f32⟩
  | 33 => ⟨S6000, .f32⟩
  | 34 => ⟨S6000x1, .f32⟩
  | 35 => ⟨S6000, .f32⟩
  | 36 => ⟨S6000x1, .f32⟩
  | 37 => ⟨S6000, .f32⟩
  | 38 => ⟨S6000x1, .f32⟩
  | 39 => ⟨S6000, .f32⟩
  | 40 => ⟨S6000, .f32⟩
  | 41 => ⟨S_, .f32⟩
  | 42 => ⟨S6000, .f32⟩
  | 43 => ⟨S6000, .f32⟩
  | 44 => ⟨S6000, .f32⟩
  | 45 => ⟨S_, .f32⟩
  | 46 => ⟨S6000, .f32⟩
  | 47 => ⟨S6000, .f32⟩
  | 48 => ⟨S6000, .f32⟩
  | 49 => ⟨S6000, .i32⟩
  | 50 => ⟨S_, .i1⟩
  | 51 => ⟨S6000, .i1⟩
  | 52 => ⟨S_, .i32⟩
  | 53 => ⟨S300, .i32⟩
  | 54 => ⟨S_, .i32⟩
  | 55 => ⟨S_, .i32⟩
  | 56 => ⟨S_, .i32⟩
  | 57 => ⟨S6000, .f32⟩
  | 58 => ⟨S6000, .f32⟩
  | 59 => ⟨S6000, .f32⟩
  | 60 => ⟨S6000, .f32⟩
  | 61 => ⟨S6000, .f32⟩
  | 62 => ⟨S6000, .i32⟩
  | 63 => ⟨S6000, .i32⟩
  | 64 => ⟨S_, .i32⟩
  | 65 => ⟨S_, .i32⟩
  | 66 => ⟨S6000, .i1⟩
  | 67 => ⟨S300, .i32⟩
  | 68 => ⟨S_, .i32⟩
  | 69 => ⟨S_, .i32⟩
  | 70 => ⟨S_, .i1⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S1, .i1⟩
  | 80 => ⟨S_, .i1⟩
  | 81 => ⟨S_, .i1⟩
  | 82 => ⟨S_, .i32⟩
  | 83 => ⟨S_, .i1⟩
  | 84 => ⟨S_, .i1⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S1, .f32⟩
  | 92 => ⟨S_, .f32⟩
  | 93 => ⟨S6000, .f32⟩
  | 94 => ⟨S6000, .f32⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S1, .f32⟩
  | 102 => ⟨S_, .f32⟩
  | 103 => ⟨S6000, .f32⟩
  | 104 => ⟨S6000, .f32⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S1, .f32⟩
  | 112 => ⟨S_, .f32⟩
  | 113 => ⟨S6000, .f32⟩
  | 114 => ⟨S6000, .f32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S1, .f32⟩
  | 122 => ⟨S_, .f32⟩
  | 123 => ⟨S6000, .f32⟩
  | 124 => ⟨S6000, .f32⟩
  | 125 => ⟨S6000, .f32⟩
  | 126 => ⟨S_, .f32⟩
  | 127 => ⟨S6000, .f32⟩
  | _ => ⟨S22500x4, .f32⟩

abbrev hbmTy0_2 (i : Nat) : BufTy := match i % 128 with
  | 0 => ⟨S6000, .f32⟩
  | 1 => ⟨S6000, .f32⟩
  | 2 => ⟨S_, .f32⟩
  | 3 => ⟨S6000, .f32⟩
  | 4 => ⟨S6000, .f32⟩
  | 5 => ⟨S6000, .f32⟩
  | 6 => ⟨S_, .i32⟩
  | 7 => ⟨S_, .i1⟩
  | 8 => ⟨S_, .i32⟩
  | 9 => ⟨S_, .i32⟩
  | 10 => ⟨S_, .i32⟩
  | 11 => ⟨S_, .i32⟩
  | 12 => ⟨S1, .f32⟩
  | 13 => ⟨S_, .f32⟩
  | 14 => ⟨S6000, .f32⟩
  | 15 => ⟨S6000, .f32⟩
  | 16 => ⟨S6000, .f32⟩
  | 17 => ⟨S_, .f32⟩
  | 18 => ⟨S6000, .f32⟩
  | 19 => ⟨S6000, .f32⟩
  | 20 => ⟨S6000, .f32⟩
  | 21 => ⟨S_, .f32⟩
  | 22 => ⟨S6000, .f32⟩
  | 23 => ⟨S6000, .i1⟩
  | 24 => ⟨S_, .i32⟩
  | 25 => ⟨S6000, .i32⟩
  | 26 => ⟨S6000, .i1⟩
  | 27 => ⟨S6000, .i1⟩
  | 28 => ⟨S6000, .i1⟩
  | 29 => ⟨S6000, .i1⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S1, .i32⟩
  | 39 => ⟨S_, .i32⟩
  | 40 => ⟨S_, .i32⟩
  | 41 => ⟨S_, .i1⟩
  | 42 => ⟨S_, .i32⟩
  | 43 => ⟨S_, .i32⟩
  | 44 => ⟨S_, .i32⟩
  | 45 => ⟨S1, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S_, .i32⟩
  | 53 => ⟨S1, .i32⟩
  | 54 => ⟨S300, .i32⟩
  | 55 => ⟨S_, .i32⟩
  | 56 => ⟨S_, .i32⟩
  | 57 => ⟨S_, .i32⟩
  | 58 => ⟨S_, .i32⟩
  | 59 => ⟨S300, .i32⟩
  | 60 => ⟨S300, .i32⟩
  | 61 => ⟨S300, .i1⟩
  | 62 => ⟨S300x1, .i1⟩
  | 63 => ⟨S_, .i32⟩
  | 64 => ⟨S300, .i32⟩
  | 65 => ⟨S300, .i1⟩
  | 66 => ⟨S_, .i32⟩
  | 67 => ⟨S300, .i32⟩
  | 68 => ⟨S300, .i32⟩
  | 69 => ⟨S300, .i32⟩
  | 70 => ⟨S300x1, .i32⟩
  | 71 => ⟨S300x4, .f32⟩
  | 72 => ⟨S_, .f32⟩
  | 73 => ⟨S_, .f32⟩
  | 74 => ⟨S300x4, .i1⟩
  | 75 => ⟨S300x4, .f32⟩
  | 76 => ⟨S300x4, .f32⟩
  | _ => ⟨S22500x4, .f32⟩

abbrev hbmTy (i : Nat) : BufTy := match i / 128 with
  | 0 => hbmTy0_0 i
  | 1 => hbmTy0_1 i
  | 2 => hbmTy0_2 i
  | _ => ⟨S22500x4, .f32⟩

abbrev bufTy : (tb : Table) → Fin (tcTables nBuf tb) → BufTy
  | .hbm, ⟨i, _⟩ => hbmTy i
  | _, _ => ⟨S22500x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_3 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_4 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_5 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_6 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_cst_7 : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_8 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_call1_v3 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_9 : Ref sig .tc := ⟨.hbm, 95, rfl⟩
abbrev main_call2_v0 : Ref sig .tc := ⟨.hbm, 96, rfl⟩
abbrev main_call2_v1 : Ref sig .tc := ⟨.hbm, 97, rfl⟩
abbrev main_call2_v2 : Ref sig .tc := ⟨.hbm, 98, rfl⟩
abbrev main_call2_v3 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_10 : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_call3_v3 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_11 : Ref sig .tc := ⟨.hbm, 117, rfl⟩
abbrev main_v85 : Ref sig .tc := ⟨.hbm, 118, rfl⟩
abbrev main_cst_12 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_13 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_values : Ref sig .tc := ⟨.hbm, 136, rfl⟩
abbrev main_indices : Ref sig .tc := ⟨.hbm, 137, rfl⟩
abbrev main_c : Ref sig .tc := ⟨.hbm, 138, rfl⟩
abbrev main_v101 : Ref sig .tc := ⟨.hbm, 139, rfl⟩
abbrev main_v102 : Ref sig .tc := ⟨.hbm, 140, rfl⟩
abbrev main_c_14 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_call4_v0 : Ref sig .tc := ⟨.hbm, 148, rfl⟩
abbrev main_call4_v1_0 : Ref sig .tc := ⟨.hbm, 149, rfl⟩
abbrev main_v109 : Ref sig .tc := ⟨.hbm, 150, rfl⟩
abbrev main_c_15 : Ref sig .tc := ⟨.hbm, 151, rfl⟩
abbrev main_v110 : Ref sig .tc := ⟨.hbm, 152, rfl⟩
abbrev main_v111 : Ref sig .tc := ⟨.hbm, 153, rfl⟩
abbrev main_c_16 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_cst_17 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_cst_18 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_c_19 : Ref sig .tc := ⟨.hbm, 178, rfl⟩
abbrev main_v133 : Ref sig .tc := ⟨.hbm, 179, rfl⟩
abbrev main_c_20 : Ref sig .tc := ⟨.hbm, 180, rfl⟩
abbrev main_v134 : Ref sig .tc := ⟨.hbm, 181, rfl⟩
abbrev main_c_21 : Ref sig .tc := ⟨.hbm, 182, rfl⟩
abbrev main_c_22 : Ref sig .tc := ⟨.hbm, 183, rfl⟩
abbrev main_c_23 : Ref sig .tc := ⟨.hbm, 184, rfl⟩
abbrev main_v135_0 : Ref sig .tc := ⟨.hbm, 185, rfl⟩
abbrev main_v135_1 : Ref sig .tc := ⟨.hbm, 186, rfl⟩
abbrev main_v135_2 : Ref sig .tc := ⟨.hbm, 187, rfl⟩
abbrev main_v135_3 : Ref sig .tc := ⟨.hbm, 188, rfl⟩
abbrev main_v135_4 : Ref sig .tc := ⟨.hbm, 189, rfl⟩
abbrev main_v135_5 : Ref sig .tc := ⟨.hbm, 190, rfl⟩
abbrev main_v135_6 : Ref sig .tc := ⟨.hbm, 191, rfl⟩
abbrev main_v135_7 : Ref sig .tc := ⟨.hbm, 192, rfl⟩
abbrev main_v135_8 : Ref sig .tc := ⟨.hbm, 193, rfl⟩
abbrev main_v135_9 : Ref sig .tc := ⟨.hbm, 194, rfl⟩
abbrev main_v135_10 : Ref sig .tc := ⟨.hbm, 195, rfl⟩
abbrev main_v135_11 : Ref sig .tc := ⟨.hbm, 196, rfl⟩
abbrev main_while0c_c_38 : Ref sig .tc := ⟨.hbm, 197, rfl⟩
abbrev main_while0c_v148 : Ref sig .tc := ⟨.hbm, 198, rfl⟩
abbrev main_while0b_c_38 : Ref sig .tc := ⟨.hbm, 199, rfl⟩
abbrev main_while0b_v148 : Ref sig .tc := ⟨.hbm, 200, rfl⟩
abbrev main_while0b_c_39 : Ref sig .tc := ⟨.hbm, 201, rfl⟩
abbrev main_while0b_v149 : Ref sig .tc := ⟨.hbm, 202, rfl⟩
abbrev main_while0b_v150 : Ref sig .tc := ⟨.hbm, 203, rfl⟩
abbrev main_while0b_c_40 : Ref sig .tc := ⟨.hbm, 204, rfl⟩
abbrev main_while0b_v151 : Ref sig .tc := ⟨.hbm, 205, rfl⟩
abbrev main_while0b_v152 : Ref sig .tc := ⟨.hbm, 206, rfl⟩
abbrev main_while0b_v153 : Ref sig .tc := ⟨.hbm, 207, rfl⟩
abbrev main_while0b_v154 : Ref sig .tc := ⟨.hbm, 208, rfl⟩
abbrev main_while0b_v155 : Ref sig .tc := ⟨.hbm, 209, rfl⟩
abbrev main_while0b_c_41 : Ref sig .tc := ⟨.hbm, 210, rfl⟩
abbrev main_while0b_v156 : Ref sig .tc := ⟨.hbm, 211, rfl⟩
abbrev main_while0b_v157 : Ref sig .tc := ⟨.hbm, 212, rfl⟩
abbrev main_while0b_c_42 : Ref sig .tc := ⟨.hbm, 213, rfl⟩
abbrev main_while0b_v158 : Ref sig .tc := ⟨.hbm, 214, rfl⟩
abbrev main_while0b_v159 : Ref sig .tc := ⟨.hbm, 215, rfl⟩
abbrev main_while0b_c_43 : Ref sig .tc := ⟨.hbm, 216, rfl⟩
abbrev main_while0b_v160 : Ref sig .tc := ⟨.hbm, 217, rfl⟩
abbrev main_while0b_v161 : Ref sig .tc := ⟨.hbm, 218, rfl⟩
abbrev main_while0b_v162 : Ref sig .tc := ⟨.hbm, 219, rfl⟩
abbrev main_while0b_v163 : Ref sig .tc := ⟨.hbm, 220, rfl⟩
abbrev main_while0b_v164 : Ref sig .tc := ⟨.hbm, 221, rfl⟩
abbrev main_while0b_v165 : Ref sig .tc := ⟨.hbm, 222, rfl⟩
abbrev main_while0b_c_44 : Ref sig .tc := ⟨.hbm, 223, rfl⟩
abbrev main_while0b_v166 : Ref sig .tc := ⟨.hbm, 224, rfl⟩
abbrev main_while0b_v167 : Ref sig .tc := ⟨.hbm, 225, rfl⟩
abbrev main_while0b_c_45 : Ref sig .tc := ⟨.hbm, 226, rfl⟩
abbrev main_while0b_v168 : Ref sig .tc := ⟨.hbm, 227, rfl⟩
abbrev main_while0b_v169 : Ref sig .tc := ⟨.hbm, 228, rfl⟩
abbrev main_while0b_v170 : Ref sig .tc := ⟨.hbm, 229, rfl⟩
abbrev main_while0b_v171 : Ref sig .tc := ⟨.hbm, 230, rfl⟩
abbrev main_while0b_v172 : Ref sig .tc := ⟨.hbm, 231, rfl⟩
abbrev main_while0b_v173 : Ref sig .tc := ⟨.hbm, 232, rfl⟩
abbrev main_while0b_c_46 : Ref sig .tc := ⟨.hbm, 233, rfl⟩
abbrev main_while0b_v174 : Ref sig .tc := ⟨.hbm, 234, rfl⟩
abbrev main_while0b_v175 : Ref sig .tc := ⟨.hbm, 235, rfl⟩
abbrev main_while0b_c_47 : Ref sig .tc := ⟨.hbm, 236, rfl⟩
abbrev main_while0b_v176 : Ref sig .tc := ⟨.hbm, 237, rfl⟩
abbrev main_while0b_v177 : Ref sig .tc := ⟨.hbm, 238, rfl⟩
abbrev main_while0b_v178 : Ref sig .tc := ⟨.hbm, 239, rfl⟩
abbrev main_while0b_v179 : Ref sig .tc := ⟨.hbm, 240, rfl⟩
abbrev main_while0b_v180 : Ref sig .tc := ⟨.hbm, 241, rfl⟩
abbrev main_while0b_v181 : Ref sig .tc := ⟨.hbm, 242, rfl⟩
abbrev main_while0b_c_48 : Ref sig .tc := ⟨.hbm, 243, rfl⟩
abbrev main_while0b_v182 : Ref sig .tc := ⟨.hbm, 244, rfl⟩
abbrev main_while0b_v183 : Ref sig .tc := ⟨.hbm, 245, rfl⟩
abbrev main_while0b_c_49 : Ref sig .tc := ⟨.hbm, 246, rfl⟩
abbrev main_while0b_v184 : Ref sig .tc := ⟨.hbm, 247, rfl⟩
abbrev main_while0b_v185 : Ref sig .tc := ⟨.hbm, 248, rfl⟩
abbrev main_while0b_v186 : Ref sig .tc := ⟨.hbm, 249, rfl⟩
abbrev main_while0b_v187 : Ref sig .tc := ⟨.hbm, 250, rfl⟩
abbrev main_while0b_v188 : Ref sig .tc := ⟨.hbm, 251, rfl⟩
abbrev main_while0b_v189 : Ref sig .tc := ⟨.hbm, 252, rfl⟩
abbrev main_while0b_v190 : Ref sig .tc := ⟨.hbm, 253, rfl⟩
abbrev main_while0b_cst_50 : Ref sig .tc := ⟨.hbm, 254, rfl⟩
abbrev main_while0b_v191 : Ref sig .tc := ⟨.hbm, 255, rfl⟩
abbrev main_while0b_v192 : Ref sig .tc := ⟨.hbm, 256, rfl⟩
abbrev main_while0b_v193 : Ref sig .tc := ⟨.hbm, 257, rfl⟩
abbrev main_while0b_cst_51 : Ref sig .tc := ⟨.hbm, 258, rfl⟩
abbrev main_while0b_v194 : Ref sig .tc := ⟨.hbm, 259, rfl⟩
abbrev main_while0b_v195 : Ref sig .tc := ⟨.hbm, 260, rfl⟩
abbrev main_while0b_v196 : Ref sig .tc := ⟨.hbm, 261, rfl⟩
abbrev main_while0b_c_52 : Ref sig .tc := ⟨.hbm, 262, rfl⟩
abbrev main_while0b_v197 : Ref sig .tc := ⟨.hbm, 263, rfl⟩
abbrev main_while0b_v198 : Ref sig .tc := ⟨.hbm, 264, rfl⟩
abbrev main_while0b_c_53 : Ref sig .tc := ⟨.hbm, 265, rfl⟩
abbrev main_while0b_v199 : Ref sig .tc := ⟨.hbm, 266, rfl⟩
abbrev main_while0b_v200 : Ref sig .tc := ⟨.hbm, 267, rfl⟩
abbrev main_while0b_v201 : Ref sig .tc := ⟨.hbm, 268, rfl⟩
abbrev main_while0b_v202 : Ref sig .tc := ⟨.hbm, 269, rfl⟩
abbrev main_while0b_v203 : Ref sig .tc := ⟨.hbm, 270, rfl⟩
abbrev main_while0b_v204 : Ref sig .tc := ⟨.hbm, 271, rfl⟩
abbrev main_while0b_v205 : Ref sig .tc := ⟨.hbm, 272, rfl⟩
abbrev main_while0b_cst_54 : Ref sig .tc := ⟨.hbm, 273, rfl⟩
abbrev main_while0b_v206 : Ref sig .tc := ⟨.hbm, 274, rfl⟩
abbrev main_while0b_v207 : Ref sig .tc := ⟨.hbm, 275, rfl⟩
abbrev main_while0b_v208 : Ref sig .tc := ⟨.hbm, 276, rfl⟩
abbrev main_while0b_cst_55 : Ref sig .tc := ⟨.hbm, 277, rfl⟩
abbrev main_while0b_v209 : Ref sig .tc := ⟨.hbm, 278, rfl⟩
abbrev main_while0b_v210 : Ref sig .tc := ⟨.hbm, 279, rfl⟩
abbrev main_while0b_v211 : Ref sig .tc := ⟨.hbm, 280, rfl⟩
abbrev main_while0b_v212 : Ref sig .tc := ⟨.hbm, 281, rfl⟩
abbrev main_while0b_v213 : Ref sig .tc := ⟨.hbm, 282, rfl⟩
abbrev main_while0b_v214 : Ref sig .tc := ⟨.hbm, 283, rfl⟩
abbrev main_while0b_v215 : Ref sig .tc := ⟨.hbm, 284, rfl⟩
abbrev main_while0b_v216 : Ref sig .tc := ⟨.hbm, 285, rfl⟩
abbrev main_while0b_c_56 : Ref sig .tc := ⟨.hbm, 286, rfl⟩
abbrev main_while0b_v217 : Ref sig .tc := ⟨.hbm, 287, rfl⟩
abbrev main_while0b_c_57 : Ref sig .tc := ⟨.hbm, 288, rfl⟩
abbrev main_while0b_v218 : Ref sig .tc := ⟨.hbm, 289, rfl⟩
abbrev main_while0b_v219 : Ref sig .tc := ⟨.hbm, 290, rfl⟩
abbrev main_while0b_c_58 : Ref sig .tc := ⟨.hbm, 291, rfl⟩
abbrev main_while0b_v220 : Ref sig .tc := ⟨.hbm, 292, rfl⟩
abbrev main_while0b_v221 : Ref sig .tc := ⟨.hbm, 293, rfl⟩
abbrev main_while0b_v222 : Ref sig .tc := ⟨.hbm, 294, rfl⟩
abbrev main_while0b_v223 : Ref sig .tc := ⟨.hbm, 295, rfl⟩
abbrev main_while0b_c_59 : Ref sig .tc := ⟨.hbm, 296, rfl⟩
abbrev main_while0b_v224 : Ref sig .tc := ⟨.hbm, 297, rfl⟩
abbrev main_while0b_c_60 : Ref sig .tc := ⟨.hbm, 298, rfl⟩
abbrev main_while0b_v225 : Ref sig .tc := ⟨.hbm, 299, rfl⟩
abbrev main_while0b_v226 : Ref sig .tc := ⟨.hbm, 300, rfl⟩
abbrev main_while0b_v227 : Ref sig .tc := ⟨.hbm, 301, rfl⟩
abbrev main_while0b_v228 : Ref sig .tc := ⟨.hbm, 302, rfl⟩
abbrev main_while0b_v229 : Ref sig .tc := ⟨.hbm, 303, rfl⟩
abbrev main_while0b_c_61 : Ref sig .tc := ⟨.hbm, 304, rfl⟩
abbrev main_while0b_v230 : Ref sig .tc := ⟨.hbm, 305, rfl⟩
abbrev main_while0b_c_62 : Ref sig .tc := ⟨.hbm, 306, rfl⟩
abbrev main_while0b_v231 : Ref sig .tc := ⟨.hbm, 307, rfl⟩
abbrev main_while0b_v232 : Ref sig .tc := ⟨.hbm, 308, rfl⟩
abbrev main_while0b_v233 : Ref sig .tc := ⟨.hbm, 309, rfl⟩
abbrev main_while0b_v234 : Ref sig .tc := ⟨.hbm, 310, rfl⟩
abbrev main_while0b_v235 : Ref sig .tc := ⟨.hbm, 311, rfl⟩
abbrev main_while0b_v236 : Ref sig .tc := ⟨.hbm, 312, rfl⟩
abbrev main_while0b_c_63 : Ref sig .tc := ⟨.hbm, 313, rfl⟩
abbrev main_while0b_v237 : Ref sig .tc := ⟨.hbm, 314, rfl⟩
abbrev main_v136 : Ref sig .tc := ⟨.hbm, 315, rfl⟩
abbrev main_v137 : Ref sig .tc := ⟨.hbm, 316, rfl⟩
abbrev main_v138 : Ref sig .tc := ⟨.hbm, 317, rfl⟩
abbrev main_v139 : Ref sig .tc := ⟨.hbm, 318, rfl⟩
abbrev main_c_24 : Ref sig .tc := ⟨.hbm, 319, rfl⟩
abbrev main_v140 : Ref sig .tc := ⟨.hbm, 320, rfl⟩
abbrev main_v141 : Ref sig .tc := ⟨.hbm, 321, rfl⟩
abbrev main_c_25 : Ref sig .tc := ⟨.hbm, 322, rfl⟩
abbrev main_v142 : Ref sig .tc := ⟨.hbm, 323, rfl⟩
abbrev main_v143 : Ref sig .tc := ⟨.hbm, 324, rfl⟩
abbrev main_v144 : Ref sig .tc := ⟨.hbm, 325, rfl⟩
abbrev main_v145 : Ref sig .tc := ⟨.hbm, 326, rfl⟩
abbrev main_v146 : Ref sig .tc := ⟨.hbm, 327, rfl⟩
abbrev main_cst_26 : Ref sig .tc := ⟨.hbm, 328, rfl⟩
abbrev main_call7_v0 : Ref sig .tc := ⟨.hbm, 329, rfl⟩
abbrev main_call7_v1 : Ref sig .tc := ⟨.hbm, 330, rfl⟩
abbrev main_call7_v2 : Ref sig .tc := ⟨.hbm, 331, rfl⟩
abbrev main_v147 : Ref sig .tc := ⟨.hbm, 332, rfl⟩

abbrev nD : Nat := 1
abbrev τ : Topo := Topo.v7x

variable {F : FTy → Type} [FloatOps F]

abbrev main_while0_count : Scf.Loop 32 := ⟨0#32, 6000#32, 1#32⟩
-- ==== Proof.Spec.lean ====
/-
  Greedy suppression of a list of boxes by overlap, over the reals extended by the two infinities: the rank of a score,
  the list of boxes by rank, the boxes kept, and the table of the kept boxes in order.
-/
module

public import Idealize.ShloMosaic.Lib.ValueIdx
public import Mathlib.Data.EReal.Operations

@[expose] public section

noncomputable section

namespace Cert.Proof.Nms

open Idealize.ShloMosaic
open scoped Classical

/-- One where `P` holds, zero where it does not. -/
def ind (P : Prop) : EReal := if P then 1 else 0

theorem ind_true {P : Prop} (h : P) : ind P = 1 := if_pos h
theorem ind_false {P : Prop} (h : ¬ P) : ind P = 0 := if_neg h
theorem ind_congr {P Q : Prop} (h : P ↔ Q) : ind P = ind Q := by rw [propext h]
theorem ind_nat (P : Prop) : ind P = ((if P then 1 else 0 : ℕ) : EReal) := by
  by_cases h : P <;> simp [ind, h]
theorem ind_pos {P : Prop} : 0 < ind P ↔ P := by
  by_cases h : P <;> simp [ind, h]
theorem one_sub_ind (P : Prop) : 1 - ind P = ind (¬ P) := by
  by_cases h : P
  · simp only [ind, h, not_true, if_true, if_false]
    exact EReal.sub_self (by decide) (by decide)
  · simp [ind, h]
theorem ind_mul (P Q : Prop) : ind P * ind Q = ind (P ∧ Q) := by
  by_cases h : P <;> by_cases h' : Q <;> simp [ind, h, h']
theorem max_ind (P Q : Prop) : max (ind P) (ind Q) = ind (P ∨ Q) := by
  by_cases h : P <;> by_cases h' : Q <;> simp [ind, h, h']
theorem ind_eq {P Q : Prop} : ind P = ind Q ↔ (P ↔ Q) := by
  by_cases h : P <;> by_cases h' : Q <;> simp [ind, h, h']
theorem ind_nonneg (P : Prop) : 0 ≤ ind P := by
  by_cases h : P <;> simp [ind, h]

theorem sum_ind_pos {ι : Type} (s : Finset ι) (P : ι → Prop) : 0 < ∑ i ∈ s, ind (P i) ↔ ∃ i ∈ s, P i := by
  simp only [ind_nat, ← Nat.cast_sum]
  rw [show (0 : EReal) = ((0 : ℕ) : EReal) by simp, EReal.natCast_lt_iff, Finset.sum_pos_iff]
  constructor
  · rintro ⟨i, hi, h⟩
    by_cases hp : P i
    · exact ⟨i, hi, hp⟩
    · simp [hp] at h
  · rintro ⟨i, hi, h⟩
    exact ⟨i, hi, by simp [h]⟩

theorem sum_ind_card {ι : Type} (s : Finset ι) (P : ι → Prop) : ∑ i ∈ s, ind (P i) = ((s.filter P).card : EReal) := by
  simp only [ind_nat, ← Nat.cast_sum]
  rw [Finset.card_filter]

/-- A sum over a range cut in blocks of 128. -/
theorem sum_blocks {M : Type} [AddCommMonoid M] (f : ℕ → M) (n : ℕ) :
    ∑ j ∈ Finset.range (128 * n), f j = ∑ jc ∈ Finset.range n, ∑ p : Fin 128, f (128 * jc + p.val) := by
  induction n with
  | zero => simp
  | succ n ih =>
    rw [Finset.sum_range_succ, ← ih, show 128 * (n + 1) = 128 * n + 128 by ring, Finset.sum_range_add, Finset.sum_range (n := 128)]

/-- The next block of a sum over a range. -/
theorem sum_block_succ {M : Type} [AddCommMonoid M] (f : ℕ → M) (n : ℕ) :
    ∑ j ∈ Finset.range (128 * (n + 1)), f j = ∑ j ∈ Finset.range (128 * n), f j + ∑ p : Fin 128, f (128 * n + p.val) := by
  rw [show 128 * (n + 1) = 128 * n + 128 by ring, Finset.sum_range_add, Finset.sum_range (n := 128)]

/-! ## Rank -/

/-- `j` comes before `i` by score, the larger first and of equal ones the one of lower index. -/
def beats (fg : ℕ → EReal) (j i : ℕ) : Prop := fg i < fg j ∨ (fg j = fg i ∧ j < i)

/-- How many of the 22528 places come before `i`. -/
def rank (fg : ℕ → EReal) (i : ℕ) : EReal := ∑ j ∈ Finset.range 22528, ind (beats fg j i)

/-- The boxes of the first `m` places of which the rank is `k`, summed. -/
def srtUpTo (fg : ℕ → EReal) (bx : ℕ → Fin 4 → EReal) (m k : ℕ) (c : Fin 4) : EReal :=
  ∑ j ∈ Finset.range m, ind (rank fg j = (k : EReal)) * bx j c

/-- The box of rank `k`. -/
def srt (fg : ℕ → EReal) (bx : ℕ → Fin 4 → EReal) (k : ℕ) (c : Fin 4) : EReal := srtUpTo fg bx 22528 k c

/-! ## Overlap -/

/-- The area of a box given by its four corners' coordinates. -/
def area (a : Fin 4 → EReal) : EReal := max (a 2 - a 0) 0 * max (a 3 - a 1) 0

/-- The area common to two boxes. -/
def inter (a b : Fin 4 → EReal) : EReal :=
  max (min (a 2) (b 2) - max (a 0) (b 0)) 0 * max (min (a 3) (b 3) - max (a 1) (b 1)) 0

/-- The overlap above which a box is dropped. -/
def thr : EReal := Ideal.ofBits .f32 0x3F333333#32

/-- What the overlap's denominator is kept from zero by. -/
def eps : EReal := Ideal.ofBits .f32 0x3089705F#32

/-- `a` and `b` overlap by more than the threshold. -/
def hit (a b : Fin 4 → EReal) : Prop := thr < Ideal.div (inter a b) (area a + area b - inter a b + eps)

/-! ## The boxes kept -/

/-- Box `n` of the list `s` is kept: it is one of the first 6000 and no earlier kept one hits it. -/
def kept (s : ℕ → Fin 4 → EReal) : ℕ → Prop :=
  Nat.strongRec fun n ih => n < 6000 ∧ ∀ i (h : i < n), ih i h → ¬ hit (s i) (s n)

theorem kept_iff (s : ℕ → Fin 4 → EReal) (n : ℕ) : kept s n ↔ (n < 6000 ∧ ∀ i < n, kept s i → ¬ hit (s i) (s n)) := by
  conv_lhs => rw [kept, Nat.strongRec_eq]
  rfl

/-- How many of the first `n` boxes are kept. -/
def cnt (s : ℕ → Fin 4 → EReal) (n : ℕ) : ℕ := ((Finset.range n).filter (kept s)).card

theorem cnt_zero (s : ℕ → Fin 4 → EReal) : cnt s 0 = 0 := by simp [cnt]

theorem cnt_succ (s : ℕ → Fin 4 → EReal) (n : ℕ) : cnt s (n + 1) = cnt s n + if kept s n then 1 else 0 := by
  unfold cnt
  rw [Finset.range_add_one, Finset.filter_insert]
  split
  · rw [Finset.card_insert_of_notMem (by simp)]
  · simp

theorem cnt_mono (s : ℕ → Fin 4 → EReal) {m n : ℕ} (h : m ≤ n) : cnt s m ≤ cnt s n :=
  Finset.card_le_card (Finset.filter_subset_filter _ (Finset.range_mono h))

theorem cnt_add_le (s : ℕ → Fin 4 → EReal) (m k : ℕ) : cnt s (m + k) ≤ cnt s m + k := by
  induction k with
  | zero => simp
  | succ k ih =>
    rw [← Nat.add_assoc, cnt_succ]
    split <;> omega

theorem cnt_add (s : ℕ → Fin 4 → EReal) (m k : ℕ) :
    cnt s (m + k) = cnt s m + ((Finset.range k).filter fun i => kept s (m + i)).card := by
  induction k with
  | zero => simp
  | succ k ih =>
    rw [← Nat.add_assoc, cnt_succ, ih, Finset.range_add_one, Finset.filter_insert]
    split
    · rw [Finset.card_insert_of_notMem (by simp)]; omega
    · simp

theorem cnt_lt_of_kept (s : ℕ → Fin 4 → EReal) {i n : ℕ} (h : i < n) (hk : kept s i) : cnt s i < cnt s n := by
  have := cnt_succ s i
  rw [if_pos hk] at this
  have := cnt_mono s (show i + 1 ≤ n by omega)
  omega

theorem kept_unique (s : ℕ → Fin 4 → EReal) {i j : ℕ} (hi : kept s i) (hj : kept s j) (h : cnt s i = cnt s j) : i = j := by
  rcases Nat.lt_trichotomy i j with hl | hl | hl
  · have := cnt_lt_of_kept s hl hi; omega
  · exact hl
  · have := cnt_lt_of_kept s hl hj; omega

theorem exists_kept (s : ℕ → Fin 4 → EReal) (n q : ℕ) (h : q < cnt s n) : ∃ i < n, kept s i ∧ cnt s i = q := by
  induction n with
  | zero => simp [cnt_zero] at h
  | succ n ih =>
    by_cases hq : q < cnt s n
    · obtain ⟨i, hi, hk⟩ := ih hq
      exact ⟨i, by omega, hk⟩
    · rw [cnt_succ] at h
      split at h
      · rename_i hk
        exact ⟨n, by omega, hk, by omega⟩
      · omega

theorem cnt_6000 (s : ℕ → Fin 4 → EReal) {n : ℕ} (h : 6000 ≤ n) : cnt s n = cnt s 6000 := by
  induction n, h using Nat.le_induction with
  | base => rfl
  | succ n hn ih =>
    rw [cnt_succ, if_neg (fun hk => by have := ((kept_iff s n).1 hk).1; omega), ih, Nat.add_zero]

/-! ## The table of the kept boxes -/

/-- The sum of `g i` over the boxes `i` of the first `m` that are kept with `q` kept before. -/
def pick (s : ℕ → Fin 4 → EReal) (g : ℕ → EReal) (m q : ℕ) : EReal :=
  ∑ i ∈ Finset.range m, ind (kept s i ∧ cnt s i = q) * g i

/-- Entry `q` of the table after `m` boxes. -/
def surv (s : ℕ → Fin 4 → EReal) (m q : ℕ) (c : Fin 4) : EReal := pick s (fun i => s i c) m q

/-- The area at entry `q` of the table after `m` boxes. -/
def sarea (s : ℕ → Fin 4 → EReal) (m q : ℕ) : EReal := pick s (fun i => area (s i)) m q

theorem pick_zero (s : ℕ → Fin 4 → EReal) (g : ℕ → EReal) (q : ℕ) : pick s g 0 q = 0 := by simp [pick]

theorem pick_eq (s : ℕ → Fin 4 → EReal) (g : ℕ → EReal) {m i q : ℕ} (hi : i < m) (hk : kept s i) (hc : cnt s i = q) :
    pick s g m q = g i := by
  unfold pick
  rw [Finset.sum_eq_single i]
  · rw [ind_true ⟨hk, hc⟩, one_mul]
  · intro j _ hj
    rw [ind_false, zero_mul]
    rintro ⟨hkj, hcj⟩
    exact hj (kept_unique s hkj hk (by omega))
  · intro h; simp at h; omega

theorem pick_none (s : ℕ → Fin 4 → EReal) (g : ℕ → EReal) {m q : ℕ} (h : cnt s m ≤ q) : pick s g m q = 0 := by
  unfold pick
  refine Finset.sum_eq_zero fun j hj => ?_
  rw [ind_false, zero_mul]
  rintro ⟨hk, hc⟩
  have := cnt_lt_of_kept s (Finset.mem_range.1 hj) hk
  omega

theorem pick_stable (s : ℕ → Fin 4 → EReal) (g : ℕ → EReal) {m n q : ℕ} (hmn : m ≤ n) (h : q < cnt s m) :
    pick s g n q = pick s g m q := by
  obtain ⟨i, hi, hk, hc⟩ := exists_kept s m q h
  rw [pick_eq s g hi hk hc, pick_eq s g (by omega) hk hc]

theorem pick_block (s : ℕ → Fin 4 → EReal) (g : ℕ → EReal) (b q : ℕ) :
    pick s g (128 * (b + 1)) q
      = pick s g (128 * b) q + ∑ p : Fin 128, ind (kept s (128 * b + p.val) ∧ cnt s (128 * b + p.val) = q) * g (128 * b + p.val) :=
  sum_block_succ _ b

/-- The boxes of a block are kept as the fixed point over the block says: a box is dropped by a table entry or by an
    earlier box of the block that is not dropped. -/
theorem kept_of_fixed (s : ℕ → Fin 4 → EReal) (b : ℕ) (D : Fin 128 → Prop)
    (hD : ∀ j, D j ↔ (((∃ q < cnt s (128 * b), hit (fun c => surv s (128 * b) q c) (s (128 * b + j.val))) ∨ 6000 ≤ 128 * b + j.val)
      ∨ ∃ i, i < j ∧ ¬ D i ∧ hit (s (128 * b + i.val)) (s (128 * b + j.val)))) (j : Fin 128) :
    D j ↔ ¬ kept s (128 * b + j.val) := by
  have tab : ∀ j : Fin 128, (∃ q < cnt s (128 * b), hit (fun c => surv s (128 * b) q c) (s (128 * b + j.val)))
      ↔ ∃ i < 128 * b, kept s i ∧ hit (s i) (s (128 * b + j.val)) := by
    intro j
    constructor
    · rintro ⟨q, hq, hh⟩
      obtain ⟨i, hi, hk, hc⟩ := exists_kept s _ q hq
      refine ⟨i, hi, hk, ?_⟩
      rwa [show (fun c => surv s (128 * b) q c) = s i from funext fun c => pick_eq s _ hi hk hc] at hh
    · rintro ⟨i, hi, hk, hh⟩
      refine ⟨cnt s i, cnt_lt_of_kept s hi hk, ?_⟩
      rwa [show (fun c => surv s (128 * b) (cnt s i) c) = s i from funext fun c => pick_eq s _ hi hk rfl]
  suffices h : ∀ n (hn : n < 128), D ⟨n, hn⟩ ↔ ¬ kept s (128 * b + n) from h j.val j.isLt
  intro n
  induction n using Nat.strong_induction_on with
  | _ n ih =>
    intro hn
    rw [hD, tab, kept_iff s (128 * b + n)]
    constructor
    · rintro ((⟨i, hi, hk, hh⟩ | h6) | ⟨i, hi, hd, hh⟩) ⟨h1, h2⟩
      · exact h2 i (by omega) hk hh
      · simp at h6; omega
      · have hi' : i.val < n := hi
        rw [ih i.val hi' i.isLt, not_not] at hd
        exact h2 (128 * b + i.val) (by omega) hd hh
    · intro h
      by_cases h6 : 6000 ≤ 128 * b + n
      · exact .inl (.inr h6)
      · have : ∃ i < 128 * b + n, kept s i ∧ hit (s i) (s (128 * b + n)) := by
          by_contra hne
          exact h ⟨by omega, fun i hi hk hh => hne ⟨i, hi, hk, hh⟩⟩
        obtain ⟨i, hi, hk, hh⟩ := this
        by_cases hib : i < 128 * b
        · exact .inl (.inl ⟨i, hib, hk, hh⟩)
        · obtain ⟨k, rfl⟩ : ∃ k, i = 128 * b + k := ⟨i - 128 * b, by omega⟩
          have hkn : k < n := by omega
          refine .inr ⟨⟨k, by omega⟩, hkn, ?_, hh⟩
          rw [ih k hkn (by omega), not_not]
          exact hk

end Cert.Proof.Nms
-- ==== Proof.Pay.lean ====
/-
  The kernel's values at an index, over the reals extended by the two infinities: comparisons as indicators, products
  with the unit matrix as transposes, and the one-hot products as sums of indicators.
-/
module

public import proofs.«01_k».proof.Proof.Gen.KernelIdeal.Skeleton
public import proofs.«01_k».proof.Proof.Spec
public import Idealize.ShloMosaic.Lib.Pointwise
public import Idealize.ShloMosaic.Lib.WordCmp

@[expose] public section

set_option maxRecDepth 16384

noncomputable section

namespace Cert.Proof.Nms

open Idealize.ShloMosaic
open Cert.KernelIdeal Cert.KernelIdeal.Gen
open Idealize.ShloMosaic.WordCmp (cmpi_slt_eq cmpi_sge_eq cmpi_eq_eq_toNat andi_ofBool ori_ofBool select_decide)

theorem ite_ind (P : Prop) [Decidable P] : (if P then (1 : EReal) else 0) = ind P := by
  by_cases h : P <;> simp [ind, h]

theorem sitofp_ind (P : Prop) [Decidable P] :
    (FloatOps.sitofp (F := Ideal) .f32 (BitVec.setWidth 32 (BitVec.ofBool (decide P))) : EReal) = ind P := by
  by_cases h : P
  · simp only [h, decide_true, ind_true]
    show (((BitVec.setWidth 32 (BitVec.ofBool true)).toInt : ℝ) : EReal) = 1
    rw [show (BitVec.setWidth 32 (BitVec.ofBool true)).toInt = 1 by decide]; simp
  · simp only [h, decide_false, ind_false, not_false_eq_true]
    show (((BitVec.setWidth 32 (BitVec.ofBool false)).toInt : ℝ) : EReal) = 0
    rw [show (BitVec.setWidth 32 (BitVec.ofBool false)).toInt = 0 by decide]; simp

theorem sitofp_word (w : BitVec 32) (n : ℕ) (h : w.toInt = n) : (FloatOps.sitofp (F := Ideal) .f32 w : EReal) = (n : EReal) := by
  show ((w.toInt : ℝ) : EReal) = _
  rw [h]; simp

theorem fold_max_ind {ι : Type} [Fintype ι] [Nonempty ι] (b : EReal) (hb : b ≤ 0) (P : ι → Prop) :
    Finset.fold max b (fun x => ind (P x)) Finset.univ = ind (∃ x, P x) := by
  apply le_antisymm
  · rw [Finset.fold_max_le]
    refine ⟨hb.trans (ind_nonneg _), fun x _ => ?_⟩
    by_cases h : P x
    · rw [ind_true h, ind_true ⟨x, h⟩]
    · rw [ind_false h]; exact ind_nonneg _
  · rw [Finset.le_fold_max]
    right
    by_cases h : ∃ x, P x
    · obtain ⟨x, hx⟩ := h
      exact ⟨x, Finset.mem_univ _, by rw [ind_true hx, ind_true ⟨x, hx⟩]⟩
    · exact ⟨Classical.arbitrary ι, Finset.mem_univ _, by rw [ind_false h]; exact ind_nonneg _⟩

/-- A sum against a row of the unit matrix. -/
theorem sum_unit {n : ℕ} (p : Fin n) (f : Fin n → EReal) : ∑ x, ind (p = x) * f x = f p := by
  rw [Finset.sum_eq_single p]
  · rw [ind_true rfl, one_mul]
  · intro x _ hx; rw [ind_false (fun h => hx h.symm), zero_mul]
  · intro h; exact absurd (Finset.mem_univ _) h

/-- A sum against a column of the unit matrix. -/
theorem sum_unit_right {n : ℕ} (p : Fin n) (f : Fin n → EReal) : ∑ x, f x * ind (x = p) = f p := by
  rw [Finset.sum_eq_single p]
  · rw [ind_true rfl, mul_one]
  · intro x _ hx; rw [ind_false hx, mul_zero]
  · intro h; exact absurd (Finset.mem_univ _) h

/-- The lane numbers of a row of 128. -/
abbrev lanes : IVec S1x128 32 := iota .tc S1x128 32 [1] iota_S1x128_d1_w32

/-- The row numbers of a column of 128. -/
abbrev subs : IVec S128x1 32 := iota .tc S128x1 32 [0] iota_S128x1_d0_w32

theorem toInt_small {n : ℕ} (h : n < 2 ^ 31) : (BitVec.ofNat 32 n).toInt = n := by
  rw [BitVec.toInt_ofNat', Int.bmod_def]
  split <;> omega

theorem cmpi_slt_small {a b : ℕ} (ha : a < 2 ^ 31) (hb : b < 2 ^ 31) :
    IntOp.cmpi .slt (BitVec.ofNat 32 a) (BitVec.ofNat 32 b) = BitVec.ofBool (decide (a < b)) := by
  rw [cmpi_slt_eq, toInt_small ha, toInt_small hb]
  congr 2
  exact propext (by omega)

theorem cmpi_eq_small {a b : ℕ} (ha : a < 2 ^ 31) (hb : b < 2 ^ 31) :
    IntOp.cmpi .eq (BitVec.ofNat 32 a) (BitVec.ofNat 32 b) = BitVec.ofBool (decide (a = b)) := by
  rw [cmpi_eq_eq_toNat, BitVec.toNat_ofNat, BitVec.toNat_ofNat, Nat.mod_eq_of_lt (by omega), Nat.mod_eq_of_lt (by omega)]

theorem lt128 (p : Fin 128) : p.val < 2 ^ 31 := by have := p.isLt; omega
theorem lt512 (p : Fin 512) : p.val < 2 ^ 31 := by have := p.isLt; omega

theorem bot_word : (Ideal.ofBits .f32 0xFF800000#32 : EReal) ≤ 0 := by
  simp [Ideal.ofBits, Ideal.ieee, -EReal.coe_mul]

theorem word_300 : (Ideal.ofBits .f32 1133903872#32 : EReal) = ((300 : ℕ) : EReal) := by
  rw [show ((300 : ℕ) : EReal) = ((300 : ℝ) : EReal) by norm_cast]
  simp [Ideal.ofBits, Ideal.ieee, -EReal.coe_mul]; norm_num

/-- The word of 128 times the counter of a loop from 0 by steps of 1. -/
theorem block_word {k : ℕ} (h : k < 1000) : (Scalar.muli (Scf.iv 0#32 1#32 k) 128#32).toInt = 128 * k := by
  have h := Affine.muli (e := 128 * (k : Int)) (Affine.iv (e := (k : Int)) (Affine.ofNat (e := 0) 0 (by omega)) (Affine.ofNat (e := 1) 1 (by omega)) k (by omega))
    (Affine.ofNat (e := 128) 128 (by omega)) (by omega)
  unfold Affine.IsInt at h
  exact h

theorem block_word_eq {k : ℕ} (h : k < 1000) : Scalar.muli (Scf.iv 0#32 1#32 k) 128#32 = BitVec.ofNat 32 (128 * k) :=
  BitVec.eq_of_toInt_eq (by rw [block_word h, toInt_small (by omega)]; push_cast; rfl)

theorem pay5_at (row : FVec Ideal S1x128 .f32) (acc : FVec Ideal S128x128 .f32) (col : FVec Ideal S128x1 .f32) (p q : Fin 128) :
    k0_pay5 (F := Ideal) row acc col (ix2 p q) = acc (ix2 p q) + ind (row (ix2 0 q) ≤ col (ix2 p 0)) := by
  pointwise [k0_pay5, k0_pay3]
  rw [sitofp_ind]

theorem pay7_at (row : FVec Ideal S1x128 .f32) (acc : FVec Ideal S128x128 .f32) (col : FVec Ideal S128x1 .f32) (p q : Fin 128) :
    k0_pay7 (F := Ideal) row acc col (ix2 p q) = acc (ix2 p q) + ind (row (ix2 0 q) < col (ix2 p 0)) := by
  pointwise [k0_pay7, k0_pay3]
  rw [sitofp_ind]

theorem pay4_at (p q : Fin 128) : k0_pay4 (F := Ideal) (ix2 p q) = 0 := by
  pointwise [k0_pay4]

theorem pay32_at (p q : Fin 128) : k0_pay32 (F := Ideal) (ix2 p q) = ind (p = q) := by
  pointwise [k0_pay32]
  rw [cmpi_eq_small (lt128 p) (lt128 q), sitofp_ind]
  exact ind_congr Fin.ext_iff.symm

theorem pay33_at (p q : Fin 128) : k0_pay33 (F := Ideal) (ix2 p q) = ind (p < q) := by
  pointwise [k0_pay33]
  rw [cmpi_slt_small (lt128 p) (lt128 q), sitofp_ind]
  exact ind_congr Iff.rfl

theorem pay40_at (p : Fin 128) (q : Fin 512) : k0_pay40 (F := Ideal) (ix2 p q) = (q.val : EReal) := by
  pointwise [k0_pay40]
  exact sitofp_word _ _ (toInt_small (lt512 q))

theorem pay39_at (q : Fin 512) : k0_pay39 (F := Ideal) (ix2 q 0) = (q.val : EReal) := by
  pointwise [k0_pay39]
  exact sitofp_word _ _ (toInt_small (lt512 q))

theorem pay35_at (p : Fin 6016) (q : Fin 4) : k0_pay35 (F := Ideal) (ix2 p q) = 0 := by
  pointwise [k0_pay35]

theorem pay37_at (p : Fin 512) (q : Fin 4) : k0_pay37 (F := Ideal) (ix2 p q) = 0 := by
  pointwise [k0_pay37]

theorem pay38_at (p : Fin 512) : k0_pay38 (F := Ideal) (ix2 p 0) = 0 := by
  pointwise [k0_pay38]

theorem pay34_eq (v : FVec Ideal S128x1 .f32) (p : Fin 128) : k0_pay34 (F := Ideal) v (ix2 p 0) = v (ix2 p 0) := by
  pointwise [k0_pay34]

theorem pay9_at (row : FVec Ideal S1x128 .f32) (acc : FVec Ideal S128x128 .f32) (col : FVec Ideal S128x1 .f32) (p : Fin 128) :
    k0_pay9 (F := Ideal) (k0_pay32 (F := Ideal)) lanes subs row acc col (ix2 p 0)
      = ∑ x : Fin 128, (acc (ix2 x p) + ind (row (ix2 0 p) < col (ix2 x 0) ∨ (col (ix2 x 0) = row (ix2 0 p) ∧ x < p))) := by
  have h32 := pay32_at
  generalize k0_pay32 (F := Ideal) = eye at h32 ⊢
  pointwise [k0_pay9, k0_pay3]
  simp only [h32, sum_unit]
  refine Finset.sum_congr rfl fun x _ => ?_
  rw [cmpi_slt_small (lt128 x) (lt128 p), andi_ofBool, ori_ofBool, ← Bool.decide_and, ← Bool.decide_or, sitofp_ind]
  rfl

theorem pay15_at (b : FVec Ideal S128x4 .f32) (p : Fin 128) :
    k0_pay15 (F := Ideal) b (ix2 p 0) = area (fun c => b (ix2 p c)) := by
  pointwise [k0_pay15, k0_pay11, k0_pay12, k0_pay13, k0_pay14]
  rfl

theorem pay20_at (b : FVec Ideal S128x4 .f32) (p : Fin 128) :
    k0_pay20 (F := Ideal) k0_pay32 b (ix2 0 p) = area (fun c => b (ix2 p c)) := by
  have h32 := pay32_at
  generalize k0_pay32 (F := Ideal) = eye at h32 ⊢
  pointwise [k0_pay20]
  simp only [h32, sum_unit_right, pay15_at]

theorem pay11_at (b : FVec Ideal S128x4 .f32) (p : Fin 128) : k0_pay11 (F := Ideal) b (ix2 p 0) = b (ix2 p 0) := by
  pointwise [k0_pay11]
theorem pay12_at (b : FVec Ideal S128x4 .f32) (p : Fin 128) : k0_pay12 (F := Ideal) b (ix2 p 0) = b (ix2 p 1) := by
  pointwise [k0_pay12]
theorem pay13_at (b : FVec Ideal S128x4 .f32) (p : Fin 128) : k0_pay13 (F := Ideal) b (ix2 p 0) = b (ix2 p 2) := by
  pointwise [k0_pay13]
theorem pay14_at (b : FVec Ideal S128x4 .f32) (p : Fin 128) : k0_pay14 (F := Ideal) b (ix2 p 0) = b (ix2 p 3) := by
  pointwise [k0_pay14]

theorem pay16_at (b : FVec Ideal S128x4 .f32) (p : Fin 128) :
    k0_pay16 (F := Ideal) k0_pay32 b (ix2 0 p) = b (ix2 p 0) := by
  have h32 := pay32_at
  generalize k0_pay32 (F := Ideal) = eye at h32 ⊢
  pointwise [k0_pay16, k0_pay11]
  simp only [h32, sum_unit_right]

theorem pay17_at (b : FVec Ideal S128x4 .f32) (p : Fin 128) :
    k0_pay17 (F := Ideal) k0_pay32 b (ix2 0 p) = b (ix2 p 1) := by
  have h32 := pay32_at
  generalize k0_pay32 (F := Ideal) = eye at h32 ⊢
  pointwise [k0_pay17, k0_pay12]
  simp only [h32, sum_unit_right]

theorem pay18_at (b : FVec Ideal S128x4 .f32) (p : Fin 128) :
    k0_pay18 (F := Ideal) k0_pay32 b (ix2 0 p) = b (ix2 p 2) := by
  have h32 := pay32_at
  generalize k0_pay32 (F := Ideal) = eye at h32 ⊢
  pointwise [k0_pay18, k0_pay13]
  simp only [h32, sum_unit_right]

theorem pay19_at (b : FVec Ideal S128x4 .f32) (p : Fin 128) :
    k0_pay19 (F := Ideal) k0_pay32 b (ix2 0 p) = b (ix2 p 3) := by
  have h32 := pay32_at
  generalize k0_pay32 (F := Ideal) = eye at h32 ⊢
  pointwise [k0_pay19, k0_pay14]
  simp only [h32, sum_unit_right]

theorem pay21_at (b : FVec Ideal S128x4 .f32) (c : FVec Ideal S512x1 .f32) (q : Fin 512) (p : Fin 128) :
    k0_pay21 (F := Ideal) k0_pay32 b c (ix2 q p) = max (c (ix2 q 0)) (b (ix2 p 0)) := by
  pointwise [k0_pay21]
  rw [pay16_at]

theorem pay22_at (b : FVec Ideal S128x4 .f32) (c : FVec Ideal S512x1 .f32) (q : Fin 512) (p : Fin 128) :
    k0_pay22 (F := Ideal) k0_pay32 b c (ix2 q p) = max (c (ix2 q 0)) (b (ix2 p 1)) := by
  pointwise [k0_pay22]
  rw [pay17_at]

theorem pay23_at (b : FVec Ideal S128x4 .f32) (c : FVec Ideal S512x1 .f32) (q : Fin 512) (p : Fin 128) :
    k0_pay23 (F := Ideal) k0_pay32 b c (ix2 q p) = min (c (ix2 q 0)) (b (ix2 p 2)) := by
  pointwise [k0_pay23]
  rw [pay18_at]

theorem pay24_at (b : FVec Ideal S128x4 .f32) (c : FVec Ideal S512x1 .f32) (q : Fin 512) (p : Fin 128) :
    k0_pay24 (F := Ideal) k0_pay32 b c (ix2 q p) = min (c (ix2 q 0)) (b (ix2 p 3)) := by
  pointwise [k0_pay24]
  rw [pay19_at]

/-- The rows against the table: a column is dropped by an entry below the count that hits it, or past the 6000th. -/
theorem pay25_at (b : FVec Ideal S128x4 .f32) (n : ℕ) (k : Fin k0_t8_loop.trips)
    (c0 c1 c2 c3 ar : FVec Ideal S512x1 .f32) (har : ∀ q : Fin 512, ar (ix2 q 0) = area ![c0 (ix2 q 0), c1 (ix2 q 0), c2 (ix2 q 0), c3 (ix2 q 0)])
    (p : Fin 128) :
    k0_pay25 (F := Ideal) lanes (k0_pay39 (F := Ideal)) (n : EReal) (Scf.iv 0#32 1#32 k) (k0_pay20 (F := Ideal) k0_pay32 b) ar
        (k0_pay21 (F := Ideal) k0_pay32 b c0) (k0_pay22 (F := Ideal) k0_pay32 b c1) (k0_pay23 (F := Ideal) k0_pay32 b c2)
        (k0_pay24 (F := Ideal) k0_pay32 b c3) (ix2 0 p)
      = ind ((∃ q : Fin 512, q.val < n ∧ hit ![c0 (ix2 q 0), c1 (ix2 q 0), c2 (ix2 q 0), c3 (ix2 q 0)] (fun c => b (ix2 p c)))
          ∨ 6000 ≤ 128 * k.val + p.val) := by
  have h39 := pay39_at
  have h20 := pay20_at b
  have h21 := pay21_at b c0
  have h22 := pay22_at b c1
  have h23 := pay23_at b c2
  have h24 := pay24_at b c3
  generalize k0_pay39 (F := Ideal) = v28 at h39 ⊢
  generalize k0_pay20 (F := Ideal) k0_pay32 b = v56 at h20 ⊢
  generalize k0_pay21 (F := Ideal) k0_pay32 b c0 = v64 at h21 ⊢
  generalize k0_pay22 (F := Ideal) k0_pay32 b c1 = v67 at h22 ⊢
  generalize k0_pay23 (F := Ideal) k0_pay32 b c2 = v70 at h23 ⊢
  generalize k0_pay24 (F := Ideal) k0_pay32 b c3 = v73 at h24 ⊢
  pointwise [k0_pay25]
  simp only [h39, h20, h21, h22, h23, h24, har]
  have hk : k.val < 47 := lt_of_lt_of_le k.isLt k0_t8_abs.2.1
  have hp := p.isLt
  rw [block_word_eq (by omega), show IntOp.addi (BitVec.ofNat 32 (128 * k.val)) (BitVec.ofNat 32 p.val) = BitVec.ofNat 32 (128 * k.val + p.val) from
    (BitVec.ofNat_add _ _).symm, cmpi_sge_eq, toInt_small (show 128 * k.val + p.val < 2 ^ 31 by omega), toInt_small (show 6000 < 2 ^ 31 by omega), sitofp_ind]
  simp only [andi_ofBool, ← Bool.decide_and, select_decide, ite_ind]
  rw [fold_max_ind _ bot_word, max_ind]
  refine ind_congr (or_congr (exists_congr fun q => ?_) (by omega))
  rw [and_comm, EReal.natCast_lt_iff]
  exact Iff.rfl

theorem pay28_at (b : FVec Ideal S128x4 .f32) (p q : Fin 128) :
    k0_pay28 (F := Ideal) k0_pay33 (k0_pay15 b) (k0_pay20 k0_pay32 b)
        (k0_pay26 (k0_pay11 b) (k0_pay13 b) (k0_pay16 k0_pay32 b) (k0_pay18 k0_pay32 b))
        (k0_pay27 (k0_pay12 b) (k0_pay14 b) (k0_pay17 k0_pay32 b) (k0_pay19 k0_pay32 b))
        (Scalar.ofBits (F := Ideal) .f32 0x00000000#32) (ix2 p q)
      = ind (hit (fun c => b (ix2 p c)) (fun c => b (ix2 q c)) ∧ p < q) := by
  have h33 := pay33_at
  have h15 := pay15_at b
  have h20 := pay20_at b
  have h26 : ∀ p q, k0_pay26 (F := Ideal) (k0_pay11 b) (k0_pay13 b) (k0_pay16 k0_pay32 b) (k0_pay18 k0_pay32 b) (ix2 p q)
      = max (min (b (ix2 p 2)) (b (ix2 q 2)) - max (b (ix2 p 0)) (b (ix2 q 0))) 0 := by
    intro p q
    have h11 := pay11_at b
    have h13 := pay13_at b
    have h16 := pay16_at b
    have h18 := pay18_at b
    generalize k0_pay11 (F := Ideal) b = x1 at h11 ⊢
    generalize k0_pay13 (F := Ideal) b = x2 at h13 ⊢
    generalize k0_pay16 (F := Ideal) k0_pay32 b = x3 at h16 ⊢
    generalize k0_pay18 (F := Ideal) k0_pay32 b = x4 at h18 ⊢
    pointwise [k0_pay26]
    simp only [h11, h13, h16, h18]
  have h27 : ∀ p q, k0_pay27 (F := Ideal) (k0_pay12 b) (k0_pay14 b) (k0_pay17 k0_pay32 b) (k0_pay19 k0_pay32 b) (ix2 p q)
      = min (b (ix2 p 3)) (b (ix2 q 3)) - max (b (ix2 p 1)) (b (ix2 q 1)) := by
    intro p q
    have h11 := pay12_at b
    have h13 := pay14_at b
    have h16 := pay17_at b
    have h18 := pay19_at b
    generalize k0_pay12 (F := Ideal) b = x1 at h11 ⊢
    generalize k0_pay14 (F := Ideal) b = x2 at h13 ⊢
    generalize k0_pay17 (F := Ideal) k0_pay32 b = x3 at h16 ⊢
    generalize k0_pay19 (F := Ideal) k0_pay32 b = x4 at h18 ⊢
    pointwise [k0_pay27]
    simp only [h11, h13, h16, h18]
  generalize k0_pay26 (F := Ideal) _ _ _ _ = v121 at h26 ⊢
  generalize k0_pay27 (F := Ideal) _ _ _ _ = v122 at h27 ⊢
  generalize k0_pay33 (F := Ideal) = v9 at h33 ⊢
  generalize k0_pay15 (F := Ideal) b = v51 at h15 ⊢
  generalize k0_pay20 (F := Ideal) k0_pay32 b = v56 at h20 ⊢
  pointwise [k0_pay28]
  simp only [h33, h15, h20, h26, h27]
  rw [ite_ind, ind_mul]
  rfl

theorem pay29_at (g : Ideal .f32) (s : FVec Ideal S1x128 .f32) (p : Fin 128) :
    k0_pay29 (F := Ideal) g s (ix2 0 p) = (1 - s (ix2 0 p)) * g := by
  pointwise [k0_pay29]

theorem pay41_at (ar : FVec Ideal S128x1 .f32) (oh : FVec Ideal S128x512 .f32) (sv : FVec Ideal S512x1 .f32) (q : Fin 512) :
    k0_pay41 (F := Ideal) ar oh sv (ix2 q 0) = sv (ix2 q 0) + ∑ p : Fin 128, oh (ix2 p q) * ar (ix2 p 0) := by
  pointwise [k0_pay41]

theorem pay31_at (eye lt : FVec Ideal S128x128 .f32) (l : FVec Ideal S128x512 .f32) (cnt g : Ideal .f32) (bb : FVec Ideal S128x4 .f32) (s : FVec Ideal S1x128 .f32) (sv : FVec Ideal S512x4 .f32) (p : Fin 512) (q : Fin 4) :
   k0_pay31 (F := Ideal) eye lt l cnt g bb s sv (ix2 p q)
      = sv (ix2 p q) + ∑ k : Fin 128, k0_pay30 eye lt l cnt g s (ix2 k p) * bb (ix2 k q) := by
  pointwise [k0_pay31]

theorem pay30_at (n : ℕ) (g : Ideal .f32) (s : FVec Ideal S1x128 .f32) (p : Fin 128) (q : Fin 512) :
    k0_pay30 (F := Ideal) k0_pay32 k0_pay33 k0_pay40 (n : EReal) g s (ix2 p q)
      = ind ((n : EReal) + ∑ x : Fin 128, (1 - s (ix2 0 x)) * g * ind (x < p) = (q.val : EReal) ∧ 0 < (1 - s (ix2 0 p)) * g) := by
  have h32 := pay32_at
  have h33 := pay33_at
  have h40 := pay40_at
  generalize k0_pay32 (F := Ideal) = eye at h32 ⊢
  generalize k0_pay33 (F := Ideal) = lt at h33 ⊢
  generalize k0_pay40 (F := Ideal) = l at h40 ⊢
  pointwise [k0_pay30, k0_pay29]
  simp only [h32, h33, h40, sum_unit]
  rw [andi_ofBool, ← Bool.decide_and, select_decide, ite_ind]

theorem pay1_at (m : FVec Ideal S128x128 .f32) (pre s : FVec Ideal S1x128 .f32) (q : Fin 128) :
    k0_pay1 (F := Ideal) m pre s (ix2 0 q) = max (pre (ix2 0 q)) (ind (0 < ∑ x, (1 - s (ix2 0 x)) * m (ix2 x q))) := by
  pointwise [k0_pay1]
  rw [sitofp_ind]

theorem pay2_at (m : FVec Ideal S128x128 .f32) (pre s : FVec Ideal S1x128 .f32) :
    k0_pay2 (F := Ideal) m pre s = ind (∃ q : Fin 128, k0_pay1 (F := Ideal) m pre s (ix2 0 q) ≠ s (ix2 0 q)) := by
  have h1 := pay1_at m pre s
  generalize k0_pay1 (F := Ideal) m pre s = s' at h1
  pointwise [k0_pay2, k0_pay1]
  simp only [sitofp_ind, ← h1, ite_ind]
  rw [fold_max_ind _ bot_word]
  exact ind_congr ⟨fun ⟨x, h⟩ => ⟨x.2, h⟩, fun ⟨q, h⟩ => ⟨(0, q), h⟩⟩

theorem pay10_at (a : Ideal .f32) : k0_pay10 (F := Ideal) a = ind (a < ((300 : ℕ) : EReal)) := by
  pointwise [k0_pay10]
  rw [word_300]
  exact sitofp_ind _

theorem pay36_at (r : FVec Ideal S128x1 .f32) (b : FVec Ideal S128x4 .f32) (t : Fin k0_t7_loop.trips) (cur : FVec Ideal S128x4 .f32) (p : Fin 128) (q : Fin 4) :
    k0_pay36 (F := Ideal) r b t cur (ix2 p q)
      = cur (ix2 p q) + ∑ x : Fin 128, ind (r (ix2 x 0) = ((128 * t.val + p.val : ℕ) : EReal)) * b (ix2 x q) := by
  pointwise [k0_pay36]
  have ht : t.val < 47 := lt_of_lt_of_le t.isLt k0_t7_abs.2.1
  rw [block_word (by omega), sitofp_word _ _ (toInt_small (lt128 p))]
  simp only [ite_ind]
  congr 1
  refine Finset.sum_congr rfl fun x _ => ?_
  congr 3
  push_cast
  norm_cast

theorem pay42_at (a : Ideal .f32) (s : FVec Ideal S1x128 .f32) :
    k0_pay42 (F := Ideal) a s = a + ∑ x : Fin 128, s (ix2 0 x) := by
  pointwise [k0_pay42]
  simp

end Cert.Proof.Nms
-- ==== Proof.Owns.lean ====
/-
  Loads and stores through a memref of which the whole is owned, at the contents it reads: a load continues at the
  contents at the rectangle's places, and a store of a box leaves the contents with the box replaced.
-/
module

public import Idealize.ShloMosaic.Lib.WholeRead
public import Idealize.ShloMosaic.Lib.WritesUnit
public import Idealize.ShloMosaic.Rules.Step

@[expose] public section

noncomputable section

namespace Cert.Proof.Nms

open Idealize.ShloMosaic
open Idealize.SL Idealize.SL.RA Idealize.SL.BI
open scoped Idealize.SL.BI
open Idealize.SL.BI.BIBase Idealize.SL.BI.Laws Idealize.SL.ProofMode Idealize.SL.Sem

/-- Contents `X` with the box of extents `size` at `off` replaced by `w`. -/
def put {s : Shape} {V : Type} (X : s.Idx → V) (off size : Fin s.rank → ℕ)
    (w : (⟨s.rank, size⟩ : Shape).Idx → V) : s.Idx → V := fun y =>
  if h : ∀ a, off a ≤ (y a).val ∧ (y a).val < off a + size a then
    w (Rect.unitLocal (s := s) (off := off) (size := size) y h)
  else X y

variable {nD : Nat} {τ : Topo} {sig : RefSig} {Val : EltTy → Type}
variable {Ix : Type} [DecidableEq Ix] {Name : Type} [DecidableEq Name] {U : Type} [URA U] {Lvl : Type} [Preorder Lvl]
variable {Λ : Labels} {defs : Defs nD τ sig Val Λ}
variable (𝒱 : Variants) (c : Thread nD τ) (bd : Option 𝒱.V) (E : Set Name) {α : Type}
  {Q : α → sProp (MT nD τ sig Ix Val Name U Lvl)} {s : Shape} {e : EltTy}

theorem owns_eq {cs : CoreSpace} (m : Memref sig c.2.kind cs s e) (q : PosShare TreeShare) {X Y : s.Idx → Val e} (h : X = Y) :
    (owns c m q X : sProp (MT nD τ sig Ix Val Name U Lvl)) ⊢ owns c m q Y := by
  subst h; exact .rfl

theorem owns_load {cs : CoreSpace} {m : Memref sig c.2.kind cs s e} {r : LoadRect s} {hl : m.view.LoadsAt r}
    {k : (r.shape.Idx → Val e) → Prog (TpuEff nD τ sig Val Λ c.2) α} {q : PosShare TreeShare} {X : s.Idx → Val e} :
    (owns c m q X : sProp (MT nD τ sig Ix Val Name U Lvl))
      ⊢ iprop((owns c m q X -∗ wp frame (wpE defs 𝒱 c bd) E (k (fun x => X (r.idx x))) Q)
        -∗ wp frame (wpE defs 𝒱 c bd) E (.op (.load m r hl) k) Q) := by
  unfold owns
  iintro ⟨%f, %hf, H⟩ HK
  subst hf
  iapply (wp_load 𝒱 c bd E (m := m) (r := r) (q := q) (f := f) (S := m.view.set) (View.setOn_subset_set _ _)) $$ H
  iintro H
  iapply HK
  iexists f
  isplitr
  · ipureintro; rfl
  · iexact H

/-- The load with the value read named. -/
theorem owns_load_as {cs : CoreSpace} {m : Memref sig c.2.kind cs s e} {r : LoadRect s} {hl : m.view.LoadsAt r}
    {k : (r.shape.Idx → Val e) → Prog (TpuEff nD τ sig Val Λ c.2) α} {q : PosShare TreeShare} {X : s.Idx → Val e} :
    (owns c m q X : sProp (MT nD τ sig Ix Val Name U Lvl))
      ⊢ iprop((∀ v : r.shape.Idx → Val e, ⌜v = fun x => X (r.idx x)⌝ -∗ owns c m q X -∗ wp frame (wpE defs 𝒱 c bd) E (k v) Q)
        -∗ wp frame (wpE defs 𝒱 c bd) E (.op (.load m r hl) k) Q) := by
  iintro H HK
  iapply (owns_load 𝒱 c bd E) $$ H
  iintro H
  iapply HK
  · ipureintro; rfl
  · iexact H

theorem owns_store {cs : CoreSpace} {m : Memref sig c.2.kind cs s e} {off size : Fin s.rank → ℕ}
    {inb : ∀ a, off a + size a ≤ s.size a} {w : (Rect.unit off size inb).shape.Idx → Val e}
    {hx : (m.access (Rect.unit off size inb)).Stores Finset.univ}
    {hm : (Finset.univ : Finset (Rect.unit off size inb).shape.Idx) = Finset.univ ∨ ∀ a, (Rect.unit off size inb).stride a = 1}
    {k : PUnit → Prog (TpuEff nD τ sig Val Λ c.2) α} {X : s.Idx → Val e} :
    (owns c m fullShare X : sProp (MT nD τ sig Ix Val Name U Lvl))
      ⊢ iprop((owns c m fullShare (put X off size w) -∗ wp frame (wpE defs 𝒱 c bd) E (k ⟨⟩) Q)
        -∗ wp frame (wpE defs 𝒱 c bd) E (.op (.store m (Rect.unit off size inb) w Finset.univ hx hm) k) Q) := by
  unfold owns
  iintro ⟨%f, %hf, H⟩ HK
  subst hf
  iapply (wp_store 𝒱 c bd E (m := m) (r := Rect.unit off size inb) (f := f) (S := m.view.set)
    (Memref.setOn_access_subset m _ _)) $$ H
  iintro H
  iapply HK
  iexists _
  isplitr
  rotate_left
  · iexact H
  · ipureintro
    funext y
    exact View.read_writes_cons_unit m.view f inb w [] y rfl

end Cert.Proof.Nms
-- ==== Proof.Words.lean ====
/-
  The kernel's loops and offsets as numbers: how many trips each counted loop makes, and the row at which each trip
  reads or writes.
-/
module

public import proofs.«01_k».proof.Proof.Pay
public import proofs.«01_k».proof.Proof.Owns
public import Idealize.ShloMosaic.Lib.LoopRemainder
public import Idealize.ShloMosaic.Lib.Pipeline.ValueKit.Tiles

@[expose] public section

set_option maxRecDepth 16384

noncomputable section

namespace Cert.Proof.Nms

open Idealize.ShloMosaic
open Cert.KernelIdeal Cert.KernelIdeal.Gen

theorem trips1 : k0_t1_loop.trips = 176 := by decide +kernel
theorem trips6 : k0_t6_loop.trips = 176 := by decide +kernel
theorem trips7 : k0_t7_loop.trips = 47 := by decide +kernel
theorem trips8 : k0_t8_loop.trips = 47 := by decide +kernel
theorem trips2 : ∀ k : Fin k0_t1_loop.trips, (k0_t2_loop k).trips = k.val := by decide +kernel
theorem trips4 : ∀ k : Fin k0_t1_loop.trips, (k0_t4_loop k).trips = 175 - k.val := by decide +kernel

theorem off1 : ∀ k, k0_off1 k = ![k.val, 0] := by decide +kernel
theorem off6 : ∀ k, k0_off6 k = ![128 * k.val, 0] := by decide +kernel
theorem off7 : ∀ k, k0_off7 k = ![128 * k.val, 0] := by decide +kernel
theorem off8 : ∀ k, k0_off8 k = ![128 * k.val, 0] := by decide +kernel
theorem off9 : ∀ k, k0_off9 k = ![128 * k.val, 0] := by decide +kernel
theorem off10 : ∀ k, k0_off10 k = ![128 * k.val, 0] := by decide +kernel

theorem lt1 (k : Fin k0_t1_loop.trips) : k.val < 176 := lt_of_lt_of_eq k.isLt trips1
theorem lt6 (k : Fin k0_t6_loop.trips) : k.val < 176 := lt_of_lt_of_eq k.isLt trips6
theorem lt7 (k : Fin k0_t7_loop.trips) : k.val < 47 := lt_of_lt_of_eq k.isLt trips7
theorem lt8 (k : Fin k0_t8_loop.trips) : k.val < 47 := lt_of_lt_of_eq k.isLt trips8

theorem off2 (k : Fin k0_t1_loop.trips) (j : Fin (k0_t2_loop k).trips) : k0_off2 k j = ![128 * j.val, 0] := by
  have hj : j.val < k.val := lt_of_lt_of_eq j.isLt (trips2 k)
  have hk := lt1 k
  show ![(Scalar.muli (Scf.iv 0#32 1#32 j.val) 128#32).toNat, 0] = _
  rw [block_word_eq (by omega), BitVec.toNat_ofNat, Nat.mod_eq_of_lt (by omega)]

theorem off4 (k : Fin k0_t1_loop.trips) (j : Fin (k0_t4_loop k).trips) : k0_off4 k j = ![128 * (k.val + 1 + j.val), 0] := by
  have hj : j.val < 175 - k.val := lt_of_lt_of_eq j.isLt (trips4 k)
  have hk := lt1 k
  show ![(Scalar.muli (Scf.iv (Scalar.addi (Scf.iv 0#32 1#32 k.val) 1#32) 1#32 j.val) 128#32).toNat, 0] = _
  have h : Scf.iv (Scalar.addi (Scf.iv 0#32 1#32 k.val) 1#32) 1#32 j.val = Scf.iv 0#32 1#32 (k.val + 1 + j.val) := by
    show 0#32 + BitVec.ofNat 32 k.val * 1#32 + 1#32 + BitVec.ofNat 32 j.val * 1#32 = 0#32 + BitVec.ofNat 32 (k.val + 1 + j.val) * 1#32
    simp only [BitVec.mul_one, BitVec.zero_add, BitVec.ofNat_add]
  rw [h, block_word_eq (by omega), BitVec.toNat_ofNat, Nat.mod_eq_of_lt (by omega)]

/-! ## Contents -/

/-- A column of numbers. -/
def colC (f : ℕ → EReal) : S22528x1.Idx → EReal := fun x => f (x 0).val

/-- The scores in rows of 128. -/
def rowC (f : ℕ → EReal) : S176x128.Idx → EReal := fun x => f (128 * (x 0).val + (x 1).val)

/-- A list of boxes, one a row. -/
def boxC (f : ℕ → Fin 4 → EReal) : S22528x4.Idx → EReal := fun x => f (x 0).val (x 1)

theorem row_read (f : ℕ → EReal) (k : Fin k0_t1_loop.trips) (q : Fin 128) :
    rowC f ((Rect.unit (s := S176x128) (k0_off1 k) S1x128.size (k0_off1_inb k)).toLoadRect.idx (ix2 0 q : S1x128.Idx)) = f (128 * k.val + q.val) := by
  unfold rowC
  congr 2
  · congr 1
    show ((Rect.unit (s := S176x128) (k0_off1 k) S1x128.size (k0_off1_inb k)).idx (ix2 0 q : S1x128.Idx) 0).val = _
    rw [Rect.idx_unit_val]
    simp [off1]
  · show ((Rect.unit (s := S176x128) (k0_off1 k) S1x128.size (k0_off1_inb k)).idx (ix2 0 q : S1x128.Idx) 1).val = _
    rw [Rect.idx_unit_val]
    simp [off1]

theorem col_read (f : ℕ → EReal) (n : ℕ) {off : Fin 2 → ℕ} (h : off = ![n, 0]) (inb : ∀ a, off a + S128x1.size a ≤ S22528x1.size a) (p : Fin 128) :
    colC f ((Rect.unit (s := S22528x1) off S128x1.size inb).toLoadRect.idx (ix2 p 0 : S128x1.Idx)) = f (n + p.val) := by
  subst h
  unfold colC
  congr 1
  show ((Rect.unit (s := S22528x1) ![n, 0] S128x1.size inb).idx (ix2 p 0 : S128x1.Idx) 0).val = _
  rw [Rect.idx_unit_val]
  simp

theorem box_read (f : ℕ → Fin 4 → EReal) (n : ℕ) {off : Fin 2 → ℕ} (h : off = ![n, 0]) (inb : ∀ a, off a + S128x4.size a ≤ S22528x4.size a)
    (p : Fin 128) (c : Fin 4) :
    boxC f ((Rect.unit (s := S22528x4) off S128x4.size inb).toLoadRect.idx (ix2 p c : S128x4.Idx)) = f (n + p.val) c := by
  subst h
  unfold boxC
  congr 1
  · show ((Rect.unit (s := S22528x4) ![n, 0] S128x4.size inb).idx (ix2 p c : S128x4.Idx) 0).val = _
    rw [Rect.idx_unit_val]
    simp
  · apply Fin.ext
    show ((Rect.unit (s := S22528x4) ![n, 0] S128x4.size inb).idx (ix2 p c : S128x4.Idx) 1).val = _
    rw [Rect.idx_unit_val]
    simp

/-- The sorted list, one box a row. -/
def listC (f : ℕ → Fin 4 → EReal) : S6016x4.Idx → EReal := fun x => f (x 0).val (x 1)

theorem list_read (f : ℕ → Fin 4 → EReal) (n : ℕ) {off : Fin 2 → ℕ} (h : off = ![n, 0]) (inb : ∀ a, off a + S128x4.size a ≤ S6016x4.size a)
    (p : Fin 128) (c : Fin 4) :
    listC f ((Rect.unit (s := S6016x4) off S128x4.size inb).toLoadRect.idx (ix2 p c : S128x4.Idx)) = f (n + p.val) c := by
  subst h
  unfold listC
  congr 1
  · show ((Rect.unit (s := S6016x4) ![n, 0] S128x4.size inb).idx (ix2 p c : S128x4.Idx) 0).val = _
    rw [Rect.idx_unit_val]
    simp
  · apply Fin.ext
    show ((Rect.unit (s := S6016x4) ![n, 0] S128x4.size inb).idx (ix2 p c : S128x4.Idx) 1).val = _
    rw [Rect.idx_unit_val]
    simp

/-- The table of kept boxes, one a row. -/
def tabC (f : ℕ → Fin 4 → EReal) : S512x4.Idx → EReal := fun x => f (x 0).val (x 1)

/-- The table of the kept boxes' areas. -/
def areaC (f : ℕ → EReal) : S512x1.Idx → EReal := fun x => f (x 0).val

theorem tab_col_read (f : ℕ → Fin 4 → EReal) (c : Fin 4) (inb : ∀ a, (![0, c.val] : Fin 2 → ℕ) a + S512x1.size a ≤ S512x4.size a) (q : Fin 512) :
    tabC f ((Rect.unit (s := S512x4) ![0, c.val] S512x1.size inb).toLoadRect.idx (ix2 q 0 : S512x1.Idx)) = f q.val c := by
  unfold tabC
  congr 1
  · show ((Rect.unit (s := S512x4) ![0, c.val] S512x1.size inb).idx (ix2 q 0 : S512x1.Idx) 0).val = _
    rw [Rect.idx_unit_val]
    simp

theorem tab_read (f : ℕ → Fin 4 → EReal) (inb : ∀ a, (![0, 0] : Fin 2 → ℕ) a + S512x4.size a ≤ S512x4.size a) (q : Fin 512) (c : Fin 4) :
    tabC f ((Rect.unit (s := S512x4) ![0, 0] S512x4.size inb).toLoadRect.idx (ix2 q c : S512x4.Idx)) = f q.val c := by
  unfold tabC
  congr 1
  · show ((Rect.unit (s := S512x4) ![0, 0] S512x4.size inb).idx (ix2 q c : S512x4.Idx) 0).val = _
    rw [Rect.idx_unit_val]
    simp
  · apply Fin.ext
    show ((Rect.unit (s := S512x4) ![0, 0] S512x4.size inb).idx (ix2 q c : S512x4.Idx) 1).val = _
    rw [Rect.idx_unit_val]
    simp

theorem area_read (f : ℕ → EReal) (inb : ∀ a, (![0, 0] : Fin 2 → ℕ) a + S512x1.size a ≤ S512x1.size a) (q : Fin 512) :
    areaC f ((Rect.unit (s := S512x1) ![0, 0] S512x1.size inb).toLoadRect.idx (ix2 q 0 : S512x1.Idx)) = f q.val := by
  unfold areaC
  congr 1
  show ((Rect.unit (s := S512x1) ![0, 0] S512x1.size inb).idx (ix2 q 0 : S512x1.Idx) 0).val = _
  rw [Rect.idx_unit_val]
  simp

theorem out_read (f : ℕ → Fin 4 → EReal) (inb : ∀ a, (![0, 0] : Fin 2 → ℕ) a + S300x4.size a ≤ S512x4.size a) (q : Fin 300) (c : Fin 4) :
    tabC f ((Rect.unit (s := S512x4) ![0, 0] S300x4.size inb).toLoadRect.idx (ix2 q c : S300x4.Idx)) = f q.val c := by
  unfold tabC
  congr 1
  · show ((Rect.unit (s := S512x4) ![0, 0] S300x4.size inb).idx (ix2 q c : S300x4.Idx) 0).val = _
    rw [Rect.idx_unit_val]
    simp
  · apply Fin.ext
    show ((Rect.unit (s := S512x4) ![0, 0] S300x4.size inb).idx (ix2 q c : S300x4.Idx) 1).val = _
    rw [Rect.idx_unit_val]
    simp

/-! ## Stores -/

/-- A store of 128 rows, at a row inside it. -/
theorem put_in {N C : ℕ} (X : (⟨2, ![N, C]⟩ : Shape).Idx → EReal) (n : ℕ) {off : Fin 2 → ℕ} (h : off = ![n, 0])
    (w : (⟨2, ![128, C]⟩ : Shape).Idx → EReal) (x : (⟨2, ![N, C]⟩ : Shape).Idx) (p : Fin 128) (hp : (x 0).val = n + p.val) :
    put X off ![128, C] w x = w (ix2 p (x 1)) := by
  subst h
  unfold put
  have hx : (x 1).val < C := (x 1).isLt
  have hpl := p.isLt
  rw [dif_pos]
  · congr 1
    funext a
    refine Fin.cases ?_ (fun b => ?_) a
    · apply Fin.ext
      show (x 0).val - n = p.val
      omega
    · refine Fin.cases ?_ (fun b => b.elim0) b
      apply Fin.ext
      show (x 1).val - 0 = (x 1).val
      omega
  · intro a
    refine Fin.cases ?_ (fun b => ?_) a
    · show n ≤ (x 0).val ∧ (x 0).val < n + 128
      omega
    · refine Fin.cases ?_ (fun b => b.elim0) b
      show 0 ≤ (x 1).val ∧ (x 1).val < 0 + C
      omega

/-- A store of 128 rows, at a row outside it. -/
theorem put_out {N C : ℕ} (X : (⟨2, ![N, C]⟩ : Shape).Idx → EReal) (n : ℕ) {off : Fin 2 → ℕ} (h : off = ![n, 0])
    (w : (⟨2, ![128, C]⟩ : Shape).Idx → EReal) (x : (⟨2, ![N, C]⟩ : Shape).Idx) (hp : ¬ (n ≤ (x 0).val ∧ (x 0).val < n + 128)) :
    put X off ![128, C] w x = X x := by
  subst h
  unfold put
  rw [dif_neg]
  intro ha
  exact hp (ha 0)

/-- A store over the whole. -/
theorem put_whole {N C : ℕ} (X : (⟨2, ![N, C]⟩ : Shape).Idx → EReal)
    (w : (⟨2, ![N, C]⟩ : Shape).Idx → EReal) : put X (![0, 0] : Fin 2 → ℕ) ![N, C] w = w := by
  funext x
  unfold put
  rw [dif_pos]
  · congr 1
    funext a
    refine Fin.cases ?_ (fun b => ?_) a
    · exact Fin.ext (Nat.sub_zero _)
    · refine Fin.cases ?_ (fun b => b.elim0) b
      exact Fin.ext (Nat.sub_zero _)
  · intro a
    refine Fin.cases ?_ (fun b => ?_) a
    · exact ⟨Nat.zero_le _, by rw [show (![0, 0] : Fin 2 → ℕ) 0 = 0 from rfl, Nat.zero_add]; exact (x 0).isLt⟩
    · refine Fin.cases ?_ (fun b => b.elim0) b
      exact ⟨Nat.zero_le _, by show (x 1).val < 0 + C; rw [Nat.zero_add]; exact (x 1).isLt⟩

end Cert.Proof.Nms
-- ==== Proof.LoopRule.lean ====
/-
  The rule of a counted loop by an invariant, stated of the loop's bounds and step together.
-/
module

public import Idealize.ShloMosaic.Lib.LoopRemainder
public import Idealize.ShloMosaic.Lib.Scf
public import Idealize.ShloMosaic.Rules.Step

@[expose] public section

noncomputable section

namespace Cert.Proof.Nms

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type} [Preorder Lvl]
variable {Λ : Labels} {defs : Defs nD τ sig Val Λ}
variable (𝒱 : Variants) (c : Thread nD τ) (bd : Option 𝒱.V) (E : Set Name) {α σ : Type}
  {Q : α → sProp (MT nD τ sig Ix Val Name U Lvl)}

theorem loop_bind (l : Scf.Loop 32) (hok : l.OK) (init : σ) (body : Fin l.trips → σ → Prog (TpuEff nD τ sig Val Λ c.2) σ)
    (I : ℕ → σ → sProp (MT nD τ sig Ix Val Name U Lvl))
    (hbody : ∀ (k : Fin l.trips) (acc : σ), I k.val acc ⊢ wp frame (wpE defs 𝒱 c bd) E (body k acc) (I (k.val + 1)))
    {kk : σ → Prog (TpuEff nD τ sig Val Λ c.2) α} :
    I 0 init ⊢ iprop((∀ acc, I l.trips acc -∗ wp frame (wpE defs 𝒱 c bd) E (kk acc) Q)
      -∗ wp frame (wpE defs 𝒱 c bd) E (Scf.Loop.for l hok init body >>= kk) Q) :=
  Scf.wp_for_bind frame (wpE defs 𝒱 c bd) E l.lb l.ub l.st hok init body I hbody

/-- The rule of consecutive programs. -/
theorem prog_bind {β : Type} (p : Prog (TpuEff nD τ sig Val Λ c.2) β) (P : sProp (MT nD τ sig Ix Val Name U Lvl))
    (R : β → sProp (MT nD τ sig Ix Val Name U Lvl)) (h : P ⊢ wp frame (wpE defs 𝒱 c bd) E p R)
    {kk : β → Prog (TpuEff nD τ sig Val Λ c.2) α} :
    P ⊢ iprop((∀ v, R v -∗ wp frame (wpE defs 𝒱 c bd) E (kk v) Q) -∗ wp frame (wpE defs 𝒱 c bd) E (p >>= kk) Q) := by
  rw [wp_bind]
  iintro HP HK
  iapply (wp_wand_r frame (wpE defs 𝒱 c bd) E)
  isplitl [HP]
  · iapply h; iexact HP
  · iintro %v HR
    iapply HK; iexact HR

end Cert.Proof.Nms
-- ==== Proof.RankLoop.lean ====
/-
  The rank loop: each trip leaves the ranks of its 128 places in the rank column.
-/
module

public import proofs.«01_k».proof.Proof.Words
public import Idealize.ShloMosaic.Lib.Pipeline.Kit
public import Idealize.ShloMosaic.Lib.Tactic
public import proofs.«01_k».proof.Proof.LoopRule

@[expose] public section

set_option maxRecDepth 16384

noncomputable section

namespace Cert.Proof.Nms

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

variable (arg0 : Memref sig .tc .vmem S176x128 .f32) (harg0 : arg0.IsWhole) (arg1 : Memref sig .tc .vmem S22528x1 .f32) (harg1 : arg1.IsWhole)
  (arg2 : Memref sig .tc .vmem S22528x4 .f32) (harg2 : arg2.IsWhole) (arg3 : Memref sig .tc .vmem S300x4 .f32) (harg3 : arg3.IsWhole)
  (arg4 : Memref sig .tc .vmem S22528x1 .f32) (harg4 : arg4.IsWhole) (arg5 : Memref sig .tc .vmem S6016x4 .f32) (harg5 : arg5.IsWhole)
  (arg6 : Memref sig .tc .vmem S512x4 .f32) (harg6 : arg6.IsWhole) (arg7 : Memref sig .tc .vmem S512x1 .f32) (harg7 : arg7.IsWhole)
variable (c : Dev nD) (bd : Option Variants.nat.V) (E : Set ℕ) (fg : ℕ → EReal)

/-- What the lower loop has counted after `k` blocks. -/
def loAcc (fg : ℕ → EReal) (r k : ℕ) (p q : Fin 128) : EReal :=
  ∑ jc ∈ Finset.range k, ind (beats fg (128 * jc + p.val) (128 * r + q.val))

theorem t2_step (v4 : FVec Ideal S128x128 .f32) (v10 : IVec S1x128 32) (v11 : IVec S128x1 32) (c0 c1 : BitVec 32) (k1 : Fin k0_t1_loop.trips)
    (v36 : Vec Ideal S1x128 .f32) (h36 : ∀ q : Fin 128, v36 (ix2 0 q) = fg (128 * k1.val + q.val))
    (k : Fin (k0_t2_loop k1).trips) (acc : FVec Ideal S128x128 .f32) :
    (iprop(owns (c : Thread nD τ) arg1 fullShare (colC fg) ∗ ⌜∀ p q : Fin 128, acc (ix2 p q) = loAcc fg k1.val k.val p q⌝) : sProp 𝕄)
      ⊢ wp frame (wpE (defs₀ (F := Ideal)) Variants.nat (c : Thread nD τ) bd) E
          (k0_t2_body (F := Ideal) arg0 harg0 arg1 harg1 arg2 harg2 arg3 harg3 arg4 harg4 arg5 harg5 arg6 harg6 arg7 harg7 v4 v10 v11 c0 c1 k1 v36 k acc)
          (fun acc' => iprop(owns (c : Thread nD τ) arg1 fullShare (colC fg) ∗ ⌜∀ p q : Fin 128, acc' (ix2 p q) = loAcc fg k1.val (k.val + 1) p q⌝)) := by
  unfold k0_t2_body
  simp only [Prog.lift, Prog.bind_op, Prog.bind_ret, Prog.pure_eq_ret]
  iintro ⟨H, %hacc⟩
  iapply (owns_load Variants.nat (c : Thread nD τ) bd E) $$ H
  iintro H
  rw [wp_ret]; imodintro
  isplitl [H]
  · iexact H
  · ipureintro
    intro p q
    rw [pay5_at, hacc, h36, col_read fg _ (off2 k1 k), loAcc, loAcc, Finset.sum_range_succ]
    congr 1
    refine ind_congr ?_
    have hk : k.val < k1.val := lt_of_lt_of_eq k.isLt (trips2 k1)
    unfold beats
    constructor
    · intro h
      rcases lt_or_eq_of_le h with h | h
      · exact .inl h
      · exact .inr ⟨h.symm, by omega⟩
    · rintro (h | h)
      · exact le_of_lt h
      · exact le_of_eq h.1.symm

/-- What the upper loop has counted after `k` blocks. -/
def hiAcc (fg : ℕ → EReal) (r k : ℕ) (p q : Fin 128) : EReal :=
  ∑ jc ∈ Finset.range k, ind (beats fg (128 * (r + 1 + jc) + p.val) (128 * r + q.val))

theorem t4_step (v4 : FVec Ideal S128x128 .f32) (v10 : IVec S1x128 32) (v11 : IVec S128x1 32) (c0 c1 : BitVec 32) (k1 : Fin k0_t1_loop.trips)
    (v36 : Vec Ideal S1x128 .f32) (h36 : ∀ q : Fin 128, v36 (ix2 0 q) = fg (128 * k1.val + q.val))
    (k : Fin (k0_t4_loop k1).trips) (acc : FVec Ideal S128x128 .f32) :
    (iprop(owns (c : Thread nD τ) arg1 fullShare (colC fg)
        ∗ ⌜∀ p q : Fin 128, acc (ix2 p q) = loAcc fg k1.val k1.val p q + hiAcc fg k1.val k.val p q⌝) : sProp 𝕄)
      ⊢ wp frame (wpE (defs₀ (F := Ideal)) Variants.nat (c : Thread nD τ) bd) E
          (k0_t4_body (F := Ideal) arg0 harg0 arg1 harg1 arg2 harg2 arg3 harg3 arg4 harg4 arg5 harg5 arg6 harg6 arg7 harg7 v4 v10 v11 c0 c1 k1 v36 k acc)
          (fun acc' => iprop(owns (c : Thread nD τ) arg1 fullShare (colC fg)
            ∗ ⌜∀ p q : Fin 128, acc' (ix2 p q) = loAcc fg k1.val k1.val p q + hiAcc fg k1.val (k.val + 1) p q⌝)) := by
  unfold k0_t4_body
  simp only [Prog.lift, Prog.bind_op, Prog.bind_ret, Prog.pure_eq_ret]
  iintro ⟨H, %hacc⟩
  iapply (owns_load Variants.nat (c : Thread nD τ) bd E) $$ H
  iintro H
  rw [wp_ret]; imodintro
  isplitl [H]
  · iexact H
  · ipureintro
    intro p q
    rw [pay7_at, hacc, h36, col_read fg _ (off4 k1 k), add_assoc]
    congr 1
    rw [hiAcc, hiAcc, Finset.sum_range_succ]
    congr 1
    refine ind_congr ?_
    unfold beats
    constructor
    · exact .inl
    · rintro (h | h)
      · exact h
      · have := q.isLt
        omega

theorem rank_split (fg : ℕ → EReal) {r : ℕ} (hr : r < 176) (q : Fin 128) :
    ∑ p : Fin 128, (loAcc fg r r p q + hiAcc fg r (175 - r) p q + ind (beats fg (128 * r + p.val) (128 * r + q.val))) = rank fg (128 * r + q.val) := by
  unfold rank
  rw [show 22528 = 128 * 176 by norm_num, sum_blocks, Finset.sum_comm]
  refine Finset.sum_congr rfl fun p _ => ?_
  rw [show 176 = r + 1 + (175 - r) by omega, Finset.sum_range_add, Finset.sum_range_succ]
  unfold loAcc hiAcc
  rw [add_right_comm]

theorem part1_wp (k1 : Fin k0_t1_loop.trips) :
    (iprop(owns (c : Thread nD τ) arg0 fullShare (rowC fg) ∗ owns (c : Thread nD τ) arg1 fullShare (colC fg)) : sProp 𝕄)
      ⊢ wp frame (wpE (defs₀ (F := Ideal)) Variants.nat (c : Thread nD τ) bd) E
          (k0_part1 (F := Ideal) arg0 harg0 arg1 harg1 arg2 harg2 arg3 harg3 arg4 harg4 arg5 harg5 arg6 harg6 arg7 harg7 (k0_pay32 (F := Ideal)) lanes subs 0#32 1#32 k1)
          (fun v => iprop((owns (c : Thread nD τ) arg0 fullShare (rowC fg) ∗ owns (c : Thread nD τ) arg1 fullShare (colC fg))
            ∗ ⌜∀ p : Fin 128, v (ix2 p 0) = rank fg (128 * k1.val + p.val)⌝)) := by
  rw [k0_part1_eq_skeleton]
  unfold k0_part1_skel
  simp only [Prog.lift, Prog.bind_op, Prog.bind_ret, Prog.pure_eq_ret]
  iintro ⟨H0, H1⟩
  iapply (owns_load Variants.nat (c : Thread nD τ) bd E) $$ H0
  iintro H0
  iapply (loop_bind Variants.nat (c : Thread nD τ) bd E (k0_t2_loop k1) (k0_t2_ok k1) (k0_pay4 (F := Ideal)) _
    (fun k acc => iprop(owns (c : Thread nD τ) arg1 fullShare (colC fg) ∗ ⌜∀ p q : Fin 128, acc (ix2 p q) = loAcc fg k1.val k p q⌝))
    (fun k acc => t2_step arg0 harg0 arg1 harg1 arg2 harg2 arg3 harg3 arg4 harg4 arg5 harg5 arg6 harg6 arg7 harg7 c bd E fg _ _ _ _ _ k1 _ (row_read fg k1) k acc)) $$ [H1]
  · isplitl [H1]
    · iexact H1
    · ipureintro
      intro p q
      rw [pay4_at]
      simp [loAcc]
  iintro %acc2 ⟨H1, %h2⟩
  rw [trips2 k1] at h2
  iapply (loop_bind Variants.nat (c : Thread nD τ) bd E (k0_t3_loop k1) (k0_t3_ok k1) acc2 _
    (fun _ acc => iprop(⌜acc = acc2⌝))
    (fun k _ => absurd k.isLt (Nat.not_lt.2 (Nat.le_trans (k0_t3_abs k1).2.1 (Nat.zero_le _))))) $$ []
  · ipureintro; rfl
  iintro %acc3 %e3
  subst e3
  iapply (loop_bind Variants.nat (c : Thread nD τ) bd E (k0_t4_loop k1) (k0_t4_ok k1) acc3 _
    (fun k acc => iprop(owns (c : Thread nD τ) arg1 fullShare (colC fg)
      ∗ ⌜∀ p q : Fin 128, acc (ix2 p q) = loAcc fg k1.val k1.val p q + hiAcc fg k1.val k p q⌝))
    (fun k acc => t4_step arg0 harg0 arg1 harg1 arg2 harg2 arg3 harg3 arg4 harg4 arg5 harg5 arg6 harg6 arg7 harg7 c bd E fg _ _ _ _ _ k1 _ (row_read fg k1) k acc)) $$ [H1]
  · isplitl [H1]
    · iexact H1
    · ipureintro
      intro p q
      rw [h2]
      simp [hiAcc]
  iintro %acc4 ⟨H1, %h4⟩
  rw [trips4 k1] at h4
  iapply (loop_bind Variants.nat (c : Thread nD τ) bd E (k0_t5_loop k1) (k0_t5_ok k1) acc4 _
    (fun _ acc => iprop(⌜acc = acc4⌝))
    (fun k _ => absurd k.isLt (Nat.not_lt.2 (Nat.le_trans (k0_t5_abs k1).2.1 (Nat.zero_le _))))) $$ []
  · ipureintro; rfl
  iintro %acc5 %e5
  subst e5
  iapply (owns_load Variants.nat (c : Thread nD τ) bd E) $$ H1
  iintro H1
  rw [wp_ret]; imodintro
  isplitl [H0 H1]
  · isplitl [H0]
    · iexact H0
    · iexact H1
  · ipureintro
    intro p
    rw [pay9_at, ← rank_split fg (lt1 k1) p]
    refine Finset.sum_congr rfl fun x _ => ?_
    rw [h4, row_read, col_read fg _ (off6 k1)]
    congr 1
    refine ind_congr ?_
    unfold beats
    rw [Nat.add_lt_add_iff_left]
    exact Iff.rfl

theorem t1_step (k : Fin k0_t1_loop.trips) (acc : Unit) :
    (iprop((owns (c : Thread nD τ) arg0 fullShare (rowC fg) ∗ owns (c : Thread nD τ) arg1 fullShare (colC fg))
        ∗ ∃ X : S22528x1.Idx → EReal, owns (c : Thread nD τ) arg4 fullShare X ∗ ⌜∀ x : S22528x1.Idx, (x 0).val < 128 * k.val → X x = rank fg (x 0).val⌝) : sProp 𝕄)
      ⊢ wp frame (wpE (defs₀ (F := Ideal)) Variants.nat (c : Thread nD τ) bd) E
          (k0_t1_body (F := Ideal) arg0 harg0 arg1 harg1 arg2 harg2 arg3 harg3 arg4 harg4 arg5 harg5 arg6 harg6 arg7 harg7 lanes subs k acc)
          (fun _ => iprop((owns (c : Thread nD τ) arg0 fullShare (rowC fg) ∗ owns (c : Thread nD τ) arg1 fullShare (colC fg))
            ∗ ∃ X : S22528x1.Idx → EReal, owns (c : Thread nD τ) arg4 fullShare X ∗ ⌜∀ x : S22528x1.Idx, (x 0).val < 128 * (k.val + 1) → X x = rank fg (x 0).val⌝)) := by
  unfold k0_t1_body
  simp only [Prog.lift, Prog.bind_op, Prog.bind_ret, Prog.pure_eq_ret]
  iintro ⟨H01, %X, H4, %hX⟩
  iapply (prog_bind Variants.nat (c : Thread nD τ) bd E _ _ _
    (part1_wp arg0 harg0 arg1 harg1 arg2 harg2 arg3 harg3 arg4 harg4 arg5 harg5 arg6 harg6 arg7 harg7 c bd E fg k)) $$ H01
  iintro %v ⟨H01, %hv⟩
  iapply (owns_load Variants.nat (c : Thread nD τ) bd E) $$ H4
  iintro H4
  iapply (owns_store Variants.nat (c : Thread nD τ) bd E) $$ H4
  iintro H4
  rw [wp_ret]; imodintro
  isplitl [H01]
  · iexact H01
  · iexists _
    isplitl [H4]
    · iexact H4
    · ipureintro
      intro x hx
      by_cases hlo : (x 0).val < 128 * k.val
      · exact (put_out (N := 22528) (C := 1) X (128 * k.val) (off6 k) _ x (by omega)).trans (hX x hlo)
      · have hp : (x 0).val - 128 * k.val < 128 := by omega
        refine (put_in (N := 22528) (C := 1) X (128 * k.val) (off6 k) _ x ⟨(x 0).val - 128 * k.val, hp⟩ (by simp only; omega)).trans ?_
        have h1 : (x 1) = (0 : Fin 1) := Fin.ext (by have h : (x 1).val < 1 := (x 1).isLt; show (x 1).val = 0; omega)
        rw [h1]
        refine (pay34_eq v _).trans ((hv _).trans ?_)
        congr 1
        simp only
        omega

/-- The whole rank loop. -/
theorem t1_wp {kk : Unit → Prog (TpuEff nD τ sig (Elt Ideal) (Λ₀ Ideal) .tc) PUnit} {Q : PUnit → sProp 𝕄} (X : S22528x1.Idx → EReal) :
    (iprop((owns (c : Thread nD τ) arg0 fullShare (rowC fg) ∗ owns (c : Thread nD τ) arg1 fullShare (colC fg)) ∗ owns (c : Thread nD τ) arg4 fullShare X) : sProp 𝕄)
      ⊢ iprop(((owns (c : Thread nD τ) arg0 fullShare (rowC fg) ∗ owns (c : Thread nD τ) arg1 fullShare (colC fg)) ∗ owns (c : Thread nD τ) arg4 fullShare (colC (rank fg))
          -∗ wp frame (wpE (defs₀ (F := Ideal)) Variants.nat (c : Thread nD τ) bd) E (kk ()) Q)
        -∗ wp frame (wpE (defs₀ (F := Ideal)) Variants.nat (c : Thread nD τ) bd) E
          (Scf.Loop.for k0_t1_loop k0_t1_ok () (k0_t1_body (F := Ideal) arg0 harg0 arg1 harg1 arg2 harg2 arg3 harg3 arg4 harg4 arg5 harg5 arg6 harg6 arg7 harg7 lanes subs) >>= kk) Q) := by
  iintro ⟨H01, H4⟩ HK
  iapply (loop_bind Variants.nat (c : Thread nD τ) bd E k0_t1_loop k0_t1_ok () _
    (fun k _ => iprop((owns (c : Thread nD τ) arg0 fullShare (rowC fg) ∗ owns (c : Thread nD τ) arg1 fullShare (colC fg))
        ∗ ∃ X : S22528x1.Idx → EReal, owns (c : Thread nD τ) arg4 fullShare X ∗ ⌜∀ x : S22528x1.Idx, (x 0).val < 128 * k → X x = rank fg (x 0).val⌝))
    (fun k acc => t1_step arg0 harg0 arg1 harg1 arg2 harg2 arg3 harg3 arg4 harg4 arg5 harg5 arg6 harg6 arg7 harg7 c bd E fg k acc)) $$ [H01 H4]
  · isplitl [H01]
    · iexact H01
    · iexists X
      isplitl [H4]
      · iexact H4
      · ipureintro
        intro x hx
        omega
  iintro %acc ⟨H01, %X', H4, %hX⟩
  have e : X' = colC (rank fg) := by
    funext x
    refine hX x ?_
    rw [trips1]
    exact (x 0).isLt
  subst e
  iapply HK
  isplitl [H01]
  · iexact H01
  · iexact H4

end Cert.Proof.Nms
-- ==== Proof.ScatLoop.lean ====
/-
  The scatter loops: after `k` blocks of boxes the sorted list holds, at each rank, the sum of the boxes of that rank
  among the first `128 * k`.
-/
module

public import proofs.«01_k».proof.Proof.Words
public import Idealize.ShloMosaic.Lib.Pipeline.Kit
public import Idealize.ShloMosaic.Lib.Tactic
public import proofs.«01_k».proof.Proof.LoopRule

@[expose] public section

set_option maxRecDepth 16384

noncomputable section

namespace Cert.Proof.Nms

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

variable (arg0 : Memref sig .tc .vmem S176x128 .f32) (harg0 : arg0.IsWhole) (arg1 : Memref sig .tc .vmem S22528x1 .f32) (harg1 : arg1.IsWhole)
  (arg2 : Memref sig .tc .vmem S22528x4 .f32) (harg2 : arg2.IsWhole) (arg3 : Memref sig .tc .vmem S300x4 .f32) (harg3 : arg3.IsWhole)
  (arg4 : Memref sig .tc .vmem S22528x1 .f32) (harg4 : arg4.IsWhole) (arg5 : Memref sig .tc .vmem S6016x4 .f32) (harg5 : arg5.IsWhole)
  (arg6 : Memref sig .tc .vmem S512x4 .f32) (harg6 : arg6.IsWhole) (arg7 : Memref sig .tc .vmem S512x1 .f32) (harg7 : arg7.IsWhole)
variable (c : Dev nD) (bd : Option Variants.nat.V) (E : Set ℕ) (fg : ℕ → EReal)

variable (bx : ℕ → Fin 4 → EReal)

/-- The sorted list inside block `k` of the boxes, its first `j` blocks done. -/
def scat (fg : ℕ → EReal) (bx : ℕ → Fin 4 → EReal) (k j m : ℕ) (q : Fin 4) : EReal :=
  if m < 128 * j then srtUpTo fg bx (128 * (k + 1)) m q else srtUpTo fg bx (128 * k) m q

theorem scat_put (k6 : ℕ) (v37 : Vec Ideal S128x1 .f32) (h37 : ∀ p : Fin 128, v37 (ix2 p 0) = rank fg (128 * k6 + p.val))
    (v40 : Vec Ideal S128x4 .f32) (h40 : ∀ (p : Fin 128) (q : Fin 4), v40 (ix2 p q) = bx (128 * k6 + p.val) q)
    (k : Fin k0_t7_loop.trips) (w : FVec Ideal S128x4 .f32) (hw : ∀ (p : Fin 128) (q : Fin 4), w (ix2 p q) = scat fg bx k6 k.val (128 * k.val + p.val) q) :
    put (listC (scat fg bx k6 k.val)) (k0_off9 k) S128x4.size (k0_pay36 (F := Ideal) v37 v40 k w) = listC (scat fg bx k6 (k.val + 1)) := by
  funext x
  by_cases hin : 128 * k.val ≤ (x 0).val ∧ (x 0).val < 128 * k.val + 128
  · obtain ⟨p, hp⟩ : ∃ p : Fin 128, (x 0).val = 128 * k.val + p.val := ⟨⟨(x 0).val - 128 * k.val, by omega⟩, by simp only; omega⟩
    refine (put_in (N := 6016) (C := 4) _ (128 * k.val) (off9 k) _ x p hp).trans ?_
    have key : ∀ q : Fin 4, k0_pay36 (F := Ideal) v37 v40 k w (ix2 p q) = scat fg bx k6 (k.val + 1) (128 * k.val + p.val) q := by
      intro q
      refine (pay36_at v37 v40 k w p q).trans ?_
      rw [hw]
      unfold scat
      rw [if_neg (by omega), if_pos (by have := p.isLt; omega)]
      refine Eq.trans ?_ (sum_block_succ (fun j => ind (rank fg j = ((128 * k.val + p.val : ℕ) : EReal)) * bx j q) k6).symm
      refine congrArg₂ (· + ·) rfl (Finset.sum_congr rfl fun y _ => ?_)
      rw [h37, h40]
    refine (key (x 1)).trans ?_
    unfold listC
    rw [hp]
  · refine (put_out (N := 6016) (C := 4) _ (128 * k.val) (off9 k) _ x hin).trans ?_
    unfold listC scat
    by_cases hlo : (x 0).val < 128 * k.val
    · rw [if_pos hlo, if_pos (by omega)]
    · rw [if_neg hlo, if_neg (by omega)]

theorem t7_step (k6 : Fin k0_t6_loop.trips) (v37 : Vec Ideal S128x1 .f32) (h37 : ∀ p : Fin 128, v37 (ix2 p 0) = rank fg (128 * k6.val + p.val))
    (v40 : Vec Ideal S128x4 .f32) (h40 : ∀ (p : Fin 128) (q : Fin 4), v40 (ix2 p q) = bx (128 * k6.val + p.val) q)
    (k : Fin k0_t7_loop.trips) (acc : Unit) :
    (owns (c : Thread nD τ) arg5 fullShare (listC (scat fg bx k6.val k.val)) : sProp 𝕄)
      ⊢ wp frame (wpE (defs₀ (F := Ideal)) Variants.nat (c : Thread nD τ) bd) E
          (k0_t7_body (F := Ideal) arg0 harg0 arg1 harg1 arg2 harg2 arg3 harg3 arg4 harg4 arg5 harg5 arg6 harg6 arg7 harg7 v37 v40 k acc)
          (fun _ => owns (c : Thread nD τ) arg5 fullShare (listC (scat fg bx k6.val (k.val + 1)))) := by
  unfold k0_t7_body
  simp only [Prog.lift, Prog.bind_op, Prog.bind_ret, Prog.pure_eq_ret]
  iintro H
  iapply (owns_load Variants.nat (c : Thread nD τ) bd E) $$ H
  iintro H
  iapply (owns_load Variants.nat (c : Thread nD τ) bd E) $$ H
  iintro H
  iapply (owns_store Variants.nat (c : Thread nD τ) bd E) $$ H
  iintro H
  rw [wp_ret]; imodintro
  iapply (owns_eq (c : Thread nD τ) arg5 fullShare
    (scat_put fg bx k6.val v37 h37 v40 h40 k
      (fun x => listC (scat fg bx k6.val k.val) ((Rect.unit (s := S6016x4) (k0_off9 k) S128x4.size (k0_off9_inb k)).toLoadRect.idx x))
      (fun p q => list_read _ _ (off9 k) (k0_off9_inb k) p q)))
  iexact H

theorem scat_zero (k : ℕ) : scat fg bx k 0 = srtUpTo fg bx (128 * k) := by
  funext m q
  unfold scat
  rw [if_neg (by omega)]

theorem scat_full (k : ℕ) : listC (scat fg bx k 47) = listC (srtUpTo fg bx (128 * (k + 1))) := by
  funext x
  unfold listC scat
  have h : (x 0).val < 6016 := (x 0).isLt
  rw [if_pos (by omega)]

theorem t6_step (k : Fin k0_t6_loop.trips) (acc : Unit) :
    (iprop((owns (c : Thread nD τ) arg4 fullShare (colC (rank fg)) ∗ owns (c : Thread nD τ) arg2 fullShare (boxC bx))
        ∗ owns (c : Thread nD τ) arg5 fullShare (listC (srtUpTo fg bx (128 * k.val)))) : sProp 𝕄)
      ⊢ wp frame (wpE (defs₀ (F := Ideal)) Variants.nat (c : Thread nD τ) bd) E
          (k0_t6_body (F := Ideal) arg0 harg0 arg1 harg1 arg2 harg2 arg3 harg3 arg4 harg4 arg5 harg5 arg6 harg6 arg7 harg7 k acc)
          (fun _ => iprop((owns (c : Thread nD τ) arg4 fullShare (colC (rank fg)) ∗ owns (c : Thread nD τ) arg2 fullShare (boxC bx))
            ∗ owns (c : Thread nD τ) arg5 fullShare (listC (srtUpTo fg bx (128 * (k.val + 1)))))) := by
  unfold k0_t6_body
  simp only [Prog.lift, Prog.bind_op, Prog.bind_ret, Prog.pure_eq_ret]
  iintro ⟨⟨H4, H2⟩, H5⟩
  iapply (owns_load Variants.nat (c : Thread nD τ) bd E) $$ H4
  iintro H4
  iapply (owns_load Variants.nat (c : Thread nD τ) bd E) $$ H2
  iintro H2
  iapply (loop_bind Variants.nat (c : Thread nD τ) bd E k0_t7_loop k0_t7_ok PUnit.unit _
    (fun j _ => owns (c : Thread nD τ) arg5 fullShare (listC (scat fg bx k.val j)))
    (fun j acc => t7_step arg0 harg0 arg1 harg1 arg2 harg2 arg3 harg3 arg4 harg4 arg5 harg5 arg6 harg6 arg7 harg7 c bd E fg bx k _
      (fun p => col_read _ _ (off7 k) _ p) _ (fun p q => box_read _ _ (off8 k) _ p q) j acc)) $$ [H5]
  · rw [scat_zero]
    iexact H5
  iintro %acc H5
  rw [wp_ret]; imodintro
  isplitl [H4 H2]
  · isplitl [H4]
    · iexact H4
    · iexact H2
  · rw [trips7, scat_full]
    iexact H5

/-- The whole scatter loop. -/
theorem t6_wp {kk : Unit → Prog (TpuEff nD τ sig (Elt Ideal) (Λ₀ Ideal) .tc) PUnit} {Q : PUnit → sProp 𝕄} :
    (iprop((owns (c : Thread nD τ) arg4 fullShare (colC (rank fg)) ∗ owns (c : Thread nD τ) arg2 fullShare (boxC bx))
        ∗ owns (c : Thread nD τ) arg5 fullShare (listC (srtUpTo fg bx 0))) : sProp 𝕄)
      ⊢ iprop(((owns (c : Thread nD τ) arg4 fullShare (colC (rank fg)) ∗ owns (c : Thread nD τ) arg2 fullShare (boxC bx))
            ∗ owns (c : Thread nD τ) arg5 fullShare (listC (srt fg bx))
          -∗ wp frame (wpE (defs₀ (F := Ideal)) Variants.nat (c : Thread nD τ) bd) E (kk ()) Q)
        -∗ wp frame (wpE (defs₀ (F := Ideal)) Variants.nat (c : Thread nD τ) bd) E
          (Scf.Loop.for k0_t6_loop k0_t6_ok () (k0_t6_body (F := Ideal) arg0 harg0 arg1 harg1 arg2 harg2 arg3 harg3 arg4 harg4 arg5 harg5 arg6 harg6 arg7 harg7) >>= kk) Q) := by
  iintro H HK
  iapply (loop_bind Variants.nat (c : Thread nD τ) bd E k0_t6_loop k0_t6_ok () _
    (fun k _ => iprop((owns (c : Thread nD τ) arg4 fullShare (colC (rank fg)) ∗ owns (c : Thread nD τ) arg2 fullShare (boxC bx))
        ∗ owns (c : Thread nD τ) arg5 fullShare (listC (srtUpTo fg bx (128 * k)))))
    (fun k acc => t6_step arg0 harg0 arg1 harg1 arg2 harg2 arg3 harg3 arg4 harg4 arg5 harg5 arg6 harg6 arg7 harg7 c bd E fg bx k acc)) $$ [H]
  · iexact H
  iintro %acc H
  rw [trips6]
  iapply HK
  iexact H

end Cert.Proof.Nms
-- ==== Proof.NmsWhile.lean ====
/-
  The loop that finds which boxes of a block an earlier box drops: entered on a row of zeros and ones it returns a row that
  the step leaves as it is. Each trip settles one more lane.
-/
module

public import proofs.«01_k».proof.Proof.Pay
public import Idealize.ShloMosaic.Lib.Pipeline.Kit
public import Idealize.ShloMosaic.Lib.Tactic

@[expose] public section

set_option maxRecDepth 16384

noncomputable section

namespace Cert.Proof.Nms

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open scoped Classical

local notation "𝕄" => MT nD τ sig Unit (Elt Ideal) ℕ (UR sig nD τ) ℕ

/-- The lanes dropped after one step from the lanes `D`. -/
def nextD (P : Fin 128 → Prop) (H : Fin 128 → Fin 128 → Prop) (D : Fin 128 → Prop) (q : Fin 128) : Prop :=
  P q ∨ ∃ x, x < q ∧ ¬ D x ∧ H x q

/-- A row of zeros and ones that the step leaves as it is. -/
def Settled (P : Fin 128 → Prop) (H : Fin 128 → Fin 128 → Prop) (s : FVec Ideal S1x128 .f32) : Prop :=
  ∃ D : Fin 128 → Prop, (∀ q, s (ix2 0 q) = ind (D q)) ∧ ∀ q, D q ↔ nextD P H D q

section

variable (P : Fin 128 → Prop) (H : Fin 128 → Fin 128 → Prop) (m : FVec Ideal S128x128 .f32) (pre : FVec Ideal S1x128 .f32)
  (hm : ∀ p q, m (ix2 p q) = ind (H p q ∧ p < q)) (hpre : ∀ q, pre (ix2 0 q) = ind (P q))

include hm hpre in
theorem step_at (s : FVec Ideal S1x128 .f32) (D : Fin 128 → Prop) (hs : ∀ q, s (ix2 0 q) = ind (D q)) (q : Fin 128) :
    k0_pay1 (F := Ideal) m pre s (ix2 0 q) = ind (nextD P H D q) := by
  rw [pay1_at, hpre, max_ind]
  refine ind_congr (or_congr Iff.rfl ?_)
  have e : ∀ x : Fin 128, (1 - s (ix2 0 x)) * m (ix2 x q) = ind (¬ D x ∧ (H x q ∧ x < q)) := by
    intro x
    rw [hs, hm, one_sub_ind, ind_mul]
  rw [Finset.sum_congr rfl fun x _ => e x, sum_ind_pos]
  constructor
  · rintro ⟨x, -, h1, h2, h3⟩; exact ⟨x, h3, h1, h2⟩
  · rintro ⟨x, h3, h1, h2⟩; exact ⟨x, Finset.mem_univ _, h1, h2, h3⟩

theorem nextD_lt {D D' : Fin 128 → Prop} {q : Fin 128} (h : ∀ x, x < q → (D x ↔ D' x)) : nextD P H D q ↔ nextD P H D' q := by
  unfold nextD
  constructor
  · rintro (h0 | ⟨x, hx, h1, h2⟩)
    · exact Or.inl h0
    · exact Or.inr ⟨x, hx, fun hd => h1 ((h x hx).2 hd), h2⟩
  · rintro (h0 | ⟨x, hx, h1, h2⟩)
    · exact Or.inl h0
    · exact Or.inr ⟨x, hx, fun hd => h1 ((h x hx).1 hd), h2⟩

/-- What the loop returns. -/
def wspec : sWPT 𝕄 (FVec Ideal S1x128 .f32 × BitVec 1) := do
  let r ← sWPT.arbitrary
  sWPT.assume (Settled P H r.1)
  pure r

theorem wspec_apply (K : FVec Ideal S1x128 .f32 × BitVec 1 → sProp 𝕄) :
    wspec P H K = iprop(∀ r : FVec Ideal S1x128 .f32 × BitVec 1, ⌜Settled P H r.1⌝ -∗ K r) := rfl

theorem flag_eq (s : FVec Ideal S1x128 .f32) :
    Scalar.cmpf .ogt (k0_pay2 (F := Ideal) m pre s) (Scalar.ofBits (F := Ideal) .f32 0x00000000#32)
      = BitVec.ofBool (decide (∃ q : Fin 128, k0_pay1 (F := Ideal) m pre s (ix2 0 q) ≠ s (ix2 0 q))) := by
  rw [pay2_at]
  show BitVec.ofBool (decide (Ideal.ofBits .f32 0x00000000#32 < ind _)) = _
  rw [Ideal.ofBits_zero]
  congr 1
  exact decide_eq_decide.2 ind_pos

variable (c : Dev nD) (E : Set ℕ) (k8 : Fin k0_t8_loop.trips)

include hm hpre in
/-- The loop entered with `t` lanes settled, `n` trips left at most. -/
theorem wspec_le : ∀ (n t : ℕ) (s : FVec Ideal S1x128 .f32) (fl : BitVec 1) (D : Fin 128 → Prop), (∀ q, s (ix2 0 q) = ind (D q))
      → (∀ q : Fin 128, q.val < t → (D q ↔ nextD P H D q)) → (fl = 1#1 → t ≤ 128 ∧ 129 ≤ t + n)
      → (fl ≠ 1#1 → ∀ q, D q ↔ nextD P H D q) → ∀ K, wspec P H K
      ⊢ wp frame (wpE (defs₀ (F := Ideal)) Variants.nat (c : Thread nD τ) (some n)) E
          (defs₀ (F := Ideal) .tc 1 ⟨k8, m, pre, s, fl⟩) K := by
  intro n
  induction n with
  | zero =>
    intro t s fl D hs ht h1 h0 K
    have hfl : fl ≠ 1#1 := fun h => by have := h1 h; omega
    rw [wspec_apply]
    show _ ⊢ wp frame (wpE (defs₀ (F := Ideal)) Variants.nat (c : Thread nD τ) (some 0)) E (cc0_while1 k8 m pre s fl) K
    simp only [cc0_while1_eq_skeleton]; unfold cc0_while1_skel
    simp only [hfl, ↓reduceIte, Prog.pure_eq_ret]
    iintro Hk
    rw [wp_ret]; imodintro
    iapply Hk
    ipureintro
    exact ⟨D, hs, h0 hfl⟩
  | succ n ih =>
    intro t s fl D hs ht h1 h0 K
    rw [wspec_apply]
    show _ ⊢ wp frame (wpE (defs₀ (F := Ideal)) Variants.nat (c : Thread nD τ) (some (n + 1))) E (cc0_while1 k8 m pre s fl) K
    simp only [cc0_while1_eq_skeleton]; unfold cc0_while1_skel
    by_cases hfl : fl = 1#1
    · obtain ⟨ht1, ht2⟩ := h1 hfl
      simp only [hfl, ↓reduceIte, Prog.lift, Prog.bind_op, Prog.bind_ret, Prog.pure_eq_ret]
      have hs' := step_at P H m pre hm hpre s D hs
      have hT : ∀ q : Fin 128, q.val < t + 1 → (nextD P H D q ↔ nextD P H (nextD P H D) q) := fun q hq =>
        nextD_lt P H fun x hx => ht x (by have : x.val < q.val := hx; omega)
      have hflag := flag_eq m pre s
      have hA : Scalar.cmpf .ogt (k0_pay2 (F := Ideal) m pre s) (Scalar.ofBits (F := Ideal) .f32 0x00000000#32) = 1#1 → t + 1 ≤ 128 ∧ 129 ≤ (t + 1) + n := by
        intro h
        rw [hflag] at h
        have hex : ∃ q : Fin 128, k0_pay1 (F := Ideal) m pre s (ix2 0 q) ≠ s (ix2 0 q) := by
          by_contra hne
          rw [decide_eq_false hne] at h
          exact absurd h (by decide)
        obtain ⟨q, hq⟩ := hex
        have hqt : t ≤ q.val := by
          by_contra hlt
          refine hq ?_
          rw [hs', hs]
          exact ind_congr (ht q (by omega)).symm
        have := q.isLt
        omega
      have hB : Scalar.cmpf .ogt (k0_pay2 (F := Ideal) m pre s) (Scalar.ofBits (F := Ideal) .f32 0x00000000#32) ≠ 1#1 →
          ∀ q, nextD P H D q ↔ nextD P H (nextD P H D) q := by
        intro h
        rw [hflag] at h
        have hex : ∀ q : Fin 128, nextD P H D q ↔ D q := by
          intro q
          by_contra hne
          refine h ?_
          rw [decide_eq_true ⟨q, fun he => hne (by rw [hs', hs] at he; exact ind_eq.1 he)⟩]
          rfl
        intro q
        exact nextD_lt P H fun x _ => (hex x).symm
      iintro Hk
      iapply (wp_call_spec Variants.nat (c : Thread nD τ) (some (n + 1)) E (wspec P H) n
        (fun u hu => by cases hu; exact Nat.lt_succ_self n)
        (ih (t + 1) (k0_pay1 (F := Ideal) m pre s) _ (nextD P H D) hs' hT hA hB))
      rw [wspec_apply]
      iintro %r %hr
      rw [wp_ret]; imodintro
      iapply Hk
      ipureintro
      exact hr
    · simp only [hfl, ↓reduceIte, Prog.pure_eq_ret]
      iintro Hk
      rw [wp_ret]; imodintro
      iapply Hk
      ipureintro
      exact ⟨D, hs, h0 hfl⟩

end

end Cert.Proof.Nms
-- ==== Proof.NmsStep.lean ====
/-
  What one block of the sorted list does to the table of kept boxes, the table of their areas and the count: the pure part
  of the third loop's step.
-/
module

public import proofs.«01_k».proof.Proof.Words
public import proofs.«01_k».proof.Proof.NmsWhile

@[expose] public section

set_option maxRecDepth 16384

noncomputable section

namespace Cert.Proof.Nms

open Idealize.ShloMosaic
open Cert.KernelIdeal Cert.KernelIdeal.Gen
open scoped Classical

/-- After `b` blocks: the table and the count are those of the first `B` blocks, and `B` is `b` unless 300 were kept. -/
def NmsInv (s : ℕ → Fin 4 → EReal) (b : ℕ) (acc : EReal) (T : S512x4.Idx → EReal) (A : S512x1.Idx → EReal) : Prop :=
  ∃ B ≤ b, acc = (cnt s (128 * B) : EReal) ∧ (B = b ∨ 300 ≤ cnt s (128 * B)) ∧ cnt s (128 * B) < 428
    ∧ T = tabC (surv s (128 * B)) ∧ A = areaC (sarea s (128 * B))

theorem nms_init (s : ℕ → Fin 4 → EReal) : NmsInv s 0 (0 : EReal) (fun _ => 0) (fun _ => 0) := by
  refine ⟨0, le_rfl, ?_, Or.inl rfl, ?_, ?_, ?_⟩
  · rw [cnt_zero]; simp
  · rw [cnt_zero]; omega
  · funext x; exact (pick_zero s (fun i => s i (x 1)) (x 0).val).symm
  · funext x; exact (pick_zero s (fun i => area (s i)) (x 0).val).symm

/-- The kept boxes before lane `p` of block `b`, counted over the block's lanes. -/
theorem cnt_lane (s : ℕ → Fin 4 → EReal) (b : ℕ) (p : ℕ) (hp : p ≤ 128) :
    (cnt s (128 * b) : EReal) + ∑ x : Fin 128, ind (kept s (128 * b + x.val) ∧ x.val < p) = (cnt s (128 * b + p) : EReal) := by
  rw [sum_ind_card, cnt_add, Nat.cast_add]
  congr 2
  rw [← Finset.card_map Fin.valEmbedding]
  congr 1
  ext i
  simp only [Finset.mem_map, Finset.mem_filter, Finset.mem_univ, true_and, Finset.mem_range, Fin.valEmbedding_apply]
  constructor
  · rintro ⟨x, ⟨h1, h2⟩, rfl⟩; exact ⟨h2, h1⟩
  · rintro ⟨h2, h1⟩; exact ⟨⟨i, by omega⟩, ⟨h1, h2⟩, rfl⟩

/-- The table entries as the kernel reads them hit as the table's entries do. -/
theorem hit_table (s : ℕ → Fin 4 → EReal) (m : ℕ) (h : cnt s m < 428) (b : Fin 4 → EReal) :
    (∃ q : Fin 512, q.val < cnt s m ∧ hit ![surv s m q.val 0, surv s m q.val 1, surv s m q.val 2, surv s m q.val 3] b)
      ↔ ∃ q < cnt s m, hit (fun c => surv s m q c) b := by
  have e : ∀ q : ℕ, (![surv s m q 0, surv s m q 1, surv s m q 2, surv s m q 3] : Fin 4 → EReal) = fun c => surv s m q c := by
    intro q; funext c; fin_cases c <;> rfl
  constructor
  · rintro ⟨q, h1, h2⟩; exact ⟨q.val, h1, by rw [← e]; exact h2⟩
  · rintro ⟨q, h1, h2⟩; exact ⟨⟨q, by omega⟩, h1, by rw [e]; exact h2⟩

/-- The area table holds the areas of the entries of the box table. -/
theorem area_table (s : ℕ → Fin 4 → EReal) (m q : ℕ) :
    sarea s m q = area ![surv s m q 0, surv s m q 1, surv s m q 2, surv s m q 3] := by
  by_cases h : q < cnt s m
  · obtain ⟨i, hi, hk, hc⟩ := exists_kept s m q h
    unfold sarea surv
    simp only [pick_eq s _ hi hk hc]
    unfold area
    rfl
  · unfold sarea surv
    simp only [pick_none s _ (Nat.le_of_not_lt h)]
    unfold area
    simp

theorem idx2_eta (x : S512x4.Idx) : x = ix2 (x 0) (x 1) := by
  funext a; fin_cases a <;> rfl

theorem idx2_unit (x : S512x1.Idx) : x = ix2 (x 0) (0 : Fin 1) := by
  funext a
  fin_cases a
  · rfl
  · exact Fin.ext (by have h : (x 1).val < 1 := (x 1).isLt; show (x 1).val = 0; omega)

section

variable (s : ℕ → Fin 4 → EReal) (k : Fin k0_t8_loop.trips) (acc : EReal) (T : S512x4.Idx → EReal) (A : S512x1.Idx → EReal)
  (v40 : FVec Ideal S128x4 .f32) (h40 : ∀ (p : Fin 128) (q : Fin 4), v40 (ix2 p q) = s (128 * k.val + p.val) q)

include h40 in
theorem row_eq (p : Fin 128) : (fun c => v40 (ix2 p c)) = s (128 * k.val + p.val) := funext fun c => h40 p c

include h40 in
theorem nms_hits (p q : Fin 128) :
    k0_pay28 (F := Ideal) k0_pay33 (k0_pay15 v40) (k0_pay20 k0_pay32 v40)
        (k0_pay26 (k0_pay11 v40) (k0_pay13 v40) (k0_pay16 k0_pay32 v40) (k0_pay18 k0_pay32 v40))
        (k0_pay27 (k0_pay12 v40) (k0_pay14 v40) (k0_pay17 k0_pay32 v40) (k0_pay19 k0_pay32 v40))
        (Scalar.ofBits (F := Ideal) .f32 0x00000000#32) (ix2 p q)
      = ind (hit (s (128 * k.val + p.val)) (s (128 * k.val + q.val)) ∧ p < q) := by
  rw [pay28_at, row_eq s k v40 h40, row_eq s k v40 h40]

/-- The lanes of block `k` dropped by the table after `B` blocks, or past the list's end. -/
def preB (B : ℕ) (p : Fin 128) : Prop :=
  (∃ q < cnt s (128 * B), hit (fun c => surv s (128 * B) q c) (s (128 * k.val + p.val))) ∨ 6000 ≤ 128 * k.val + p.val

include h40 in
theorem nms_pre (B : ℕ) (hB : cnt s (128 * B) < 428) (c0 c1 c2 c3 ar : FVec Ideal S512x1 .f32)
    (h0 : ∀ q : Fin 512, c0 (ix2 q 0) = surv s (128 * B) q.val 0) (h1 : ∀ q : Fin 512, c1 (ix2 q 0) = surv s (128 * B) q.val 1)
    (h2 : ∀ q : Fin 512, c2 (ix2 q 0) = surv s (128 * B) q.val 2) (h3 : ∀ q : Fin 512, c3 (ix2 q 0) = surv s (128 * B) q.val 3)
    (har : ∀ q : Fin 512, ar (ix2 q 0) = sarea s (128 * B) q.val) (p : Fin 128) :
    k0_pay25 (F := Ideal) lanes (k0_pay39 (F := Ideal)) ((cnt s (128 * B) : ℕ) : EReal) (Scf.iv 0#32 1#32 k) (k0_pay20 (F := Ideal) k0_pay32 v40) ar
        (k0_pay21 (F := Ideal) k0_pay32 v40 c0) (k0_pay22 (F := Ideal) k0_pay32 v40 c1) (k0_pay23 (F := Ideal) k0_pay32 v40 c2)
        (k0_pay24 (F := Ideal) k0_pay32 v40 c3) (ix2 0 p)
      = ind (preB s k B p) := by
  rw [pay25_at v40 (cnt s (128 * B)) k c0 c1 c2 c3 ar (fun q => by rw [har, h0, h1, h2, h3]; exact area_table s _ _) p]
  refine ind_congr (or_congr ?_ Iff.rfl)
  rw [row_eq s k v40 h40]
  simp only [h0, h1, h2, h3]
  exact hit_table s _ hB _

/-- The one-hot matrix of a block: with fewer than 300 kept it marks where each box kept goes, else it is zero. -/
theorem nms_onehot (B : ℕ) (hBk : B = k.val ∨ 300 ≤ cnt s (128 * B)) (r : FVec Ideal S1x128 .f32)
    (hr : Settled (preB s k B) (fun p q => hit (s (128 * k.val + p.val)) (s (128 * k.val + q.val))) r) :
    (cnt s (128 * B) < 300 →
        (∀ p q, k0_pay30 (F := Ideal) k0_pay32 k0_pay33 k0_pay40 ((cnt s (128 * B) : ℕ) : EReal) (k0_pay10 (F := Ideal) ((cnt s (128 * B) : ℕ) : EReal)) r (ix2 p q)
          = ind (kept s (128 * k.val + p.val) ∧ cnt s (128 * k.val + p.val) = q.val))
        ∧ k0_pay42 (F := Ideal) ((cnt s (128 * B) : ℕ) : EReal) (k0_pay29 (F := Ideal) (k0_pay10 (F := Ideal) ((cnt s (128 * B) : ℕ) : EReal)) r)
          = ((cnt s (128 * (k.val + 1)) : ℕ) : EReal))
    ∧ (300 ≤ cnt s (128 * B) →
        (∀ p q, k0_pay30 (F := Ideal) k0_pay32 k0_pay33 k0_pay40 ((cnt s (128 * B) : ℕ) : EReal) (k0_pay10 (F := Ideal) ((cnt s (128 * B) : ℕ) : EReal)) r (ix2 p q) = 0)
        ∧ k0_pay42 (F := Ideal) ((cnt s (128 * B) : ℕ) : EReal) (k0_pay29 (F := Ideal) (k0_pay10 (F := Ideal) ((cnt s (128 * B) : ℕ) : EReal)) r)
          = ((cnt s (128 * B) : ℕ) : EReal)) := by
  obtain ⟨D, hD, hfix⟩ := hr
  rw [pay10_at]
  constructor
  · intro hlt
    have hB : B = k.val := hBk.resolve_right (by omega)
    subst hB
    have hk : ∀ q, D q ↔ ¬ kept s (128 * k.val + q.val) := by
      refine kept_of_fixed s k.val D fun j => ?_
      rw [hfix j]
      rfl
    have hg : ind (((cnt s (128 * k.val) : ℕ) : EReal) < ((300 : ℕ) : EReal)) = 1 := ind_true (by exact_mod_cast hlt)
    rw [hg]
    have hsel : ∀ x : Fin 128, (1 - r (ix2 0 x)) * 1 = ind (kept s (128 * k.val + x.val)) := by
      intro x
      rw [hD, one_sub_ind, mul_one]
      exact ind_congr (by rw [hk]; exact not_not)
    constructor
    · intro p q
      rw [pay30_at]
      refine ind_congr ?_
      have e : ∀ x : Fin 128, (1 - r (ix2 0 x)) * 1 * ind (x < p) = ind (kept s (128 * k.val + x.val) ∧ x.val < p.val) := by
        intro x
        rw [hsel, ind_mul]
        exact ind_congr Iff.rfl
      rw [Finset.sum_congr rfl fun x _ => e x, cnt_lane s k.val p.val p.isLt.le, hsel, ind_pos, and_comm]
      exact and_congr Iff.rfl (by norm_cast)
    · rw [pay42_at]
      have e : ∀ x : Fin 128, k0_pay29 (F := Ideal) (1 : EReal) r (ix2 0 x) = ind (kept s (128 * k.val + x.val) ∧ x.val < 128) := by
        intro x
        rw [pay29_at]
        refine (hsel x).trans (ind_congr ?_)
        exact ⟨fun h => ⟨h, x.isLt⟩, fun h => h.1⟩
      rw [Finset.sum_congr rfl fun x _ => e x, cnt_lane s k.val 128 le_rfl]
      rfl
  · intro hge
    have hg : ind (((cnt s (128 * B) : ℕ) : EReal) < ((300 : ℕ) : EReal)) = 0 := ind_false (by
      intro h
      have : cnt s (128 * B) < 300 := by exact_mod_cast h
      omega)
    rw [hg]
    constructor
    · intro p q
      rw [pay30_at]
      refine ind_false ?_
      rw [mul_zero]
      exact fun h => lt_irrefl _ h.2
    · rw [pay42_at]
      have e : ∀ x : Fin 128, k0_pay29 (F := Ideal) (0 : EReal) r (ix2 0 x) = 0 := by
        intro x
        rw [pay29_at, mul_zero]
      rw [Finset.sum_congr rfl fun x _ => e x, Finset.sum_const_zero, add_zero]

include h40 in
/-- One block's step on the tables and the count. -/
theorem nms_step (B : ℕ) (hBk : B ≤ k.val) (hB2 : B = k.val ∨ 300 ≤ cnt s (128 * B)) (hB3 : cnt s (128 * B) < 428) (r : FVec Ideal S1x128 .f32)
    (hr : Settled (preB s k B) (fun p q => hit (s (128 * k.val + p.val)) (s (128 * k.val + q.val))) r)
    (sv : FVec Ideal S512x4 .f32) (hsv : ∀ (p : Fin 512) (q : Fin 4), sv (ix2 p q) = surv s (128 * B) p.val q)
    (av : FVec Ideal S512x1 .f32) (hav : ∀ p : Fin 512, av (ix2 p 0) = sarea s (128 * B) p.val) :
    NmsInv s (k.val + 1)
      (k0_pay42 (F := Ideal) ((cnt s (128 * B) : ℕ) : EReal) (k0_pay29 (F := Ideal) (k0_pay10 (F := Ideal) ((cnt s (128 * B) : ℕ) : EReal)) r))
      (k0_pay31 (F := Ideal) k0_pay32 k0_pay33 k0_pay40 ((cnt s (128 * B) : ℕ) : EReal) (k0_pay10 (F := Ideal) ((cnt s (128 * B) : ℕ) : EReal)) v40 r sv)
      (k0_pay41 (F := Ideal) (k0_pay15 v40)
        (k0_pay30 (F := Ideal) k0_pay32 k0_pay33 k0_pay40 ((cnt s (128 * B) : ℕ) : EReal) (k0_pay10 (F := Ideal) ((cnt s (128 * B) : ℕ) : EReal)) r) av) := by
  obtain ⟨H1, H2⟩ := nms_onehot s k B hB2 r hr
  by_cases hlt : cnt s (128 * B) < 300
  · obtain ⟨hoh, hcnt⟩ := H1 hlt
    have hB : B = k.val := hB2.resolve_right (by omega)
    subst hB
    refine ⟨k.val + 1, le_rfl, hcnt, Or.inl rfl, ?_, ?_, ?_⟩
    · have := cnt_add_le s (128 * k.val) 128
      rw [show 128 * (k.val + 1) = 128 * k.val + 128 by ring]
      omega
    · have key : ∀ (p : Fin 512) (q : Fin 4), k0_pay31 (F := Ideal) k0_pay32 k0_pay33 k0_pay40 ((cnt s (128 * k.val) : ℕ) : EReal) (k0_pay10 (F := Ideal) ((cnt s (128 * k.val) : ℕ) : EReal)) v40 r sv (ix2 p q)
          = surv s (128 * (k.val + 1)) p.val q := by
        intro p q
        rw [pay31_at, hsv]
        refine Eq.trans ?_ (pick_block s (fun i => s i q) k.val p.val).symm
        refine congrArg₂ (· + ·) rfl (Finset.sum_congr rfl fun x _ => ?_)
        rw [hoh, h40]
      funext x
      rw [idx2_eta x]
      exact key _ _
    · have key : ∀ p : Fin 512, k0_pay41 (F := Ideal) (k0_pay15 v40)
          (k0_pay30 (F := Ideal) k0_pay32 k0_pay33 k0_pay40 ((cnt s (128 * k.val) : ℕ) : EReal) (k0_pay10 (F := Ideal) ((cnt s (128 * k.val) : ℕ) : EReal)) r) av (ix2 p 0)
          = sarea s (128 * (k.val + 1)) p.val := by
        intro p
        rw [pay41_at, hav]
        refine Eq.trans ?_ (pick_block s (fun i => area (s i)) k.val p.val).symm
        refine congrArg₂ (· + ·) rfl (Finset.sum_congr rfl fun x _ => ?_)
        rw [hoh, pay15_at, row_eq s k v40 h40]
      funext x
      have hx : x = ix2 (x 0) 0 := idx2_unit x
      rw [hx]
      exact key _
  · obtain ⟨hoh, hcnt⟩ := H2 (by omega)
    refine ⟨B, by omega, hcnt, Or.inr (by omega), hB3, ?_, ?_⟩
    · have key : ∀ (p : Fin 512) (q : Fin 4), k0_pay31 (F := Ideal) k0_pay32 k0_pay33 k0_pay40 ((cnt s (128 * B) : ℕ) : EReal) (k0_pay10 (F := Ideal) ((cnt s (128 * B) : ℕ) : EReal)) v40 r sv (ix2 p q)
          = surv s (128 * B) p.val q := by
        intro p q
        rw [pay31_at, hsv]
        rw [Finset.sum_congr rfl fun x _ => show _ = (0 : EReal) by rw [hoh, zero_mul], Finset.sum_const_zero, add_zero]
      funext x
      rw [idx2_eta x]
      exact key _ _
    · have key : ∀ p : Fin 512, k0_pay41 (F := Ideal) (k0_pay15 v40)
          (k0_pay30 (F := Ideal) k0_pay32 k0_pay33 k0_pay40 ((cnt s (128 * B) : ℕ) : EReal) (k0_pay10 (F := Ideal) ((cnt s (128 * B) : ℕ) : EReal)) r) av (ix2 p 0)
          = sarea s (128 * B) p.val := by
        intro p
        rw [pay41_at, hav]
        rw [Finset.sum_congr rfl fun x _ => show _ = (0 : EReal) by rw [hoh, zero_mul], Finset.sum_const_zero, add_zero]
      funext x
      have hx : x = ix2 (x 0) 0 := idx2_unit x
      rw [hx]
      exact key _

end

end Cert.Proof.Nms
-- ==== Proof.NmsLoop.lean ====
/-
  The third loop of the kernel: block after block of the sorted list, the boxes kept are appended to the table.
-/
module

public import proofs.«01_k».proof.Proof.NmsStep
public import proofs.«01_k».proof.Proof.LoopRule

@[expose] public section

set_option maxRecDepth 16384

noncomputable section

namespace Cert.Proof.Nms

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

variable (arg0 : Memref sig .tc .vmem S176x128 .f32) (harg0 : arg0.IsWhole) (arg1 : Memref sig .tc .vmem S22528x1 .f32) (harg1 : arg1.IsWhole)
  (arg2 : Memref sig .tc .vmem S22528x4 .f32) (harg2 : arg2.IsWhole) (arg3 : Memref sig .tc .vmem S300x4 .f32) (harg3 : arg3.IsWhole)
  (arg4 : Memref sig .tc .vmem S22528x1 .f32) (harg4 : arg4.IsWhole) (arg5 : Memref sig .tc .vmem S6016x4 .f32) (harg5 : arg5.IsWhole)
  (arg6 : Memref sig .tc .vmem S512x4 .f32) (harg6 : arg6.IsWhole) (arg7 : Memref sig .tc .vmem S512x1 .f32) (harg7 : arg7.IsWhole)
variable (c : Dev nD) (E : Set ℕ) (s : ℕ → Fin 4 → EReal)

/-- What holds before block `b`. -/
def nmsI (b : ℕ) (acc : Ideal .f32) : sProp 𝕄 :=
  iprop(owns (c : Thread nD τ) arg5 fullShare (listC s) ∗ ∃ (T : S512x4.Idx → EReal) (A : S512x1.Idx → EReal),
    owns (c : Thread nD τ) arg6 fullShare T ∗ owns (c : Thread nD τ) arg7 fullShare A ∗ ⌜NmsInv s b acc T A⌝)

set_option maxHeartbeats 1600000 in
theorem t8_step (k : Fin k0_t8_loop.trips) (acc : Ideal .f32) :
    nmsI arg5 arg6 arg7 c s k.val acc
      ⊢ wp frame (wpE (defs₀ (F := Ideal)) Variants.nat (c : Thread nD τ) none) E
          (k0_t8_body (F := Ideal) arg0 harg0 arg1 harg1 arg2 harg2 arg3 harg3 arg4 harg4 arg5 harg5 arg6 harg6 arg7 harg7 lanes k acc)
          (fun acc' => nmsI arg5 arg6 arg7 c s (k.val + 1) acc') := by
  unfold k0_t8_body nmsI
  simp only [k0_part2_eq_skeleton, k0_part3_eq_skeleton, k0_part4_eq_skeleton]
  unfold k0_part2_skel k0_part3_skel k0_part4_skel
  simp only [Prog.lift, Prog.bind_op, Prog.bind_ret, Prog.pure_eq_ret]
  iintro ⟨H5, %T, %A, H6, H7, %hI⟩
  obtain ⟨B, hBk, hacc, hB2, hB3, hT, hA⟩ := hI
  subst hT hA hacc
  iapply (owns_load_as Variants.nat (c : Thread nD τ) none E) $$ H5
  iintro %v40 %h40 H5
  iapply (owns_load_as Variants.nat (c : Thread nD τ) none E) $$ H6
  iintro %c0 %h0 H6
  iapply (owns_load_as Variants.nat (c : Thread nD τ) none E) $$ H6
  iintro %c1 %h1 H6
  iapply (owns_load_as Variants.nat (c : Thread nD τ) none E) $$ H6
  iintro %c2 %h2 H6
  iapply (owns_load_as Variants.nat (c : Thread nD τ) none E) $$ H6
  iintro %c3 %h3 H6
  iapply (owns_load_as Variants.nat (c : Thread nD τ) none E) $$ H7
  iintro %ar %har H7
  have e40 : ∀ (p : Fin 128) (q : Fin 4), v40 (ix2 p q) = s (128 * k.val + p.val) q := fun p q => by
    rw [h40]; exact list_read s _ (off10 k) (k0_off10_inb k) p q
  have hm := nms_hits s k v40 e40
  have hpre := nms_pre s k v40 e40 B hB3 c0 c1 c2 c3 ar
    (fun q => by rw [h0]; exact tab_col_read (surv s (128 * B)) 0 inb_S512x4_S512x1_0_0 q)
    (fun q => by rw [h1]; exact tab_col_read (surv s (128 * B)) 1 inb_S512x4_S512x1_0_1 q)
    (fun q => by rw [h2]; exact tab_col_read (surv s (128 * B)) 2 inb_S512x4_S512x1_0_2 q)
    (fun q => by rw [h3]; exact tab_col_read (surv s (128 * B)) 3 inb_S512x4_S512x1_0_3 q)
    (fun q => by rw [har]; exact area_read (sarea s (128 * B)) inb_S512x1_S512x1_0_0 q)
  iapply (wp_call_spec Variants.nat (c : Thread nD τ) none E
    (wspec (preB s k B) (fun p q => hit (s (128 * k.val + p.val)) (s (128 * k.val + q.val)))) 200
    (fun u hu => nomatch hu)
    (wspec_le _ _ _ _ hm hpre c E k 200 0 _ 1#1 (preB s k B) hpre (fun q hq => absurd hq (Nat.not_lt_zero _))
      (fun _ => ⟨Nat.zero_le _, by omega⟩) (fun h => absurd rfl h)))
  rw [wspec_apply]
  iintro %r %hr
  iapply (owns_load_as Variants.nat (c : Thread nD τ) none E) $$ H6
  iintro %sv %hsv H6
  iapply (owns_load_as Variants.nat (c : Thread nD τ) none E) $$ H6
  iintro %sv' %hsv' H6
  iapply (owns_store Variants.nat (c : Thread nD τ) none E) $$ H6
  iintro H6
  iapply (owns_load_as Variants.nat (c : Thread nD τ) none E) $$ H7
  iintro %av %hav H7
  iapply (owns_load_as Variants.nat (c : Thread nD τ) none E) $$ H7
  iintro %av' %hav' H7
  iapply (owns_store Variants.nat (c : Thread nD τ) none E) $$ H7
  iintro H7
  rw [wp_ret]; imodintro
  isplitl [H5]
  · iexact H5
  iexists _
  iexists _
  isplitl [H6]
  · iapply (owns_eq (c : Thread nD τ) arg6 fullShare (put_whole (N := 512) (C := 4) _ _))
    iexact H6
  isplitl [H7]
  · iapply (owns_eq (c : Thread nD τ) arg7 fullShare (put_whole (N := 512) (C := 1) _ _))
    iexact H7
  ipureintro
  exact nms_step s k v40 e40 B hBk hB2 hB3 r.1 hr sv
    (fun p q => by rw [hsv]; exact tab_read (surv s (128 * B)) inb_S512x4_S512x4_0_0 p q) av
    (fun p => by rw [hav]; exact area_read (sarea s (128 * B)) inb_S512x1_S512x1_0_0 p)

end Cert.Proof.Nms
-- ==== Proof.Body.lean ====
/-
  The kernel's body: from the scores in rows and in a column and the boxes, the result is the first 300 entries of the
  table of kept boxes.
-/
module

public import proofs.«01_k».proof.Proof.RankLoop
public import proofs.«01_k».proof.Proof.ScatLoop
public import proofs.«01_k».proof.Proof.NmsLoop

@[expose] public section

set_option maxRecDepth 16384

noncomputable section

namespace Cert.Proof.Nms

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

variable (arg0 : Memref sig .tc .vmem S176x128 .f32) (harg0 : arg0.IsWhole) (arg1 : Memref sig .tc .vmem S22528x1 .f32) (harg1 : arg1.IsWhole)
  (arg2 : Memref sig .tc .vmem S22528x4 .f32) (harg2 : arg2.IsWhole) (arg3 : Memref sig .tc .vmem S300x4 .f32) (harg3 : arg3.IsWhole)
  (arg4 : Memref sig .tc .vmem S22528x1 .f32) (harg4 : arg4.IsWhole) (arg5 : Memref sig .tc .vmem S6016x4 .f32) (harg5 : arg5.IsWhole)
  (arg6 : Memref sig .tc .vmem S512x4 .f32) (harg6 : arg6.IsWhole) (arg7 : Memref sig .tc .vmem S512x1 .f32) (harg7 : arg7.IsWhole)
variable (c : Dev nD) (E : Set ℕ) (fg : ℕ → EReal) (bx : ℕ → Fin 4 → EReal)

/-- The result: the first 300 entries of the table. -/
def outC (s : ℕ → Fin 4 → EReal) : S300x4.Idx → EReal := fun x => surv s 6016 (x 0).val (x 1)

theorem out_of_inv (s : ℕ → Fin 4 → EReal) (acc : EReal) (T : S512x4.Idx → EReal) (A : S512x1.Idx → EReal) (h : NmsInv s 47 acc T A) :
    (fun x : S300x4.Idx => T ((Rect.unit (s := S512x4) ![0, 0] S300x4.size inb_S512x4_S300x4_0_0).toLoadRect.idx x)) = outC s := by
  obtain ⟨B, hB, -, hB2, -, hT, -⟩ := h
  subst hT
  have key : ∀ (q : Fin 300) (j : Fin 4), tabC (surv s (128 * B)) ((Rect.unit (s := S512x4) ![0, 0] S300x4.size inb_S512x4_S300x4_0_0).toLoadRect.idx (ix2 q j : S300x4.Idx))
      = surv s 6016 q.val j := by
    intro q j
    rw [out_read]
    rcases hB2 with rfl | h300
    · rfl
    · exact (pick_stable s (fun i => s i j) (by omega) (lt_of_lt_of_le q.isLt h300)).symm
  funext x
  have hx : x = ix2 (x 0) (x 1) := by funext a; fin_cases a <;> rfl
  rw [hx]
  exact key _ _

theorem pay35_eq : k0_pay35 (F := Ideal) = listC (srtUpTo fg bx 0) := by
  funext x
  have hx : x = ix2 (x 0) (x 1) := by funext a; fin_cases a <;> rfl
  rw [hx]
  refine (pay35_at (x 0) (x 1)).trans ?_
  unfold listC srtUpTo
  simp

theorem pay37_eq : k0_pay37 (F := Ideal) = fun _ => (0 : EReal) := by
  funext x
  rw [idx2_eta x]
  exact pay37_at _ _

theorem pay38_eq : k0_pay38 (F := Ideal) = fun _ => (0 : EReal) := by
  funext x
  rw [show x = ix2 (x 0) (0 : Fin 1) from idx2_unit x]
  exact pay38_at _

/-- What the body is entered with beside the result and what it leaves of it. -/
def bodyIn : sProp 𝕄 :=
  iprop((owns (c : Thread nD τ) arg0 fullShare (rowC fg) ∗ owns (c : Thread nD τ) arg1 fullShare (colC fg)) ∗ owns (c : Thread nD τ) arg2 fullShare (boxC bx))

/-- The four buffers the body works in, at anything. -/
def bodyTmp : sProp 𝕄 :=
  iprop((∃ d, owns (c : Thread nD τ) arg4 fullShare d) ∗ (∃ d, owns (c : Thread nD τ) arg5 fullShare d)
    ∗ (∃ d, owns (c : Thread nD τ) arg6 fullShare d) ∗ (∃ d, owns (c : Thread nD τ) arg7 fullShare d))

set_option maxHeartbeats 1600000 in
theorem body_wp (K : PUnit → sProp 𝕄) :
    iprop(bodyIn arg0 arg1 arg2 c fg bx ∗ (∃ d, owns (c : Thread nD τ) arg3 fullShare d) ∗ bodyTmp arg4 arg5 arg6 arg7 c
        ∗ ((bodyIn arg0 arg1 arg2 c fg bx ∗ owns (c : Thread nD τ) arg3 fullShare (outC (srt fg bx)) ∗ bodyTmp arg4 arg5 arg6 arg7 c) -∗ K ⟨⟩))
      ⊢ wp frame (wpE (defs₀ (F := Ideal)) Variants.nat (c : Thread nD τ) none) E
          (cc0__nms_body (F := Ideal) arg0 harg0 arg1 harg1 arg2 harg2 arg3 harg3 arg4 harg4 arg5 harg5 arg6 harg6 arg7 harg7) K := by
  simp only [cc0__nms_body_eq_skeleton]; unfold cc0__nms_body_skel
  simp only [k0_part5_eq_skeleton]; unfold k0_part5_skel
  simp only [Prog.lift, Prog.bind_op, Prog.bind_ret, Prog.pure_eq_ret, Prog.bind_assoc]
  unfold bodyIn bodyTmp
  iintro ⟨⟨H01, H2⟩, ⟨%d3, H3⟩, ⟨⟨%d4, H4⟩, ⟨%d5, H5⟩, ⟨%d6, H6⟩, ⟨%d7, H7⟩⟩, HK⟩
  iapply (t1_wp arg0 harg0 arg1 harg1 arg2 harg2 arg3 harg3 arg4 harg4 arg5 harg5 arg6 harg6 arg7 harg7 c none E fg d4) $$ [H01 H4]
  · isplitl [H01]
    · iexact H01
    · iexact H4
  iintro ⟨H01, H4⟩
  iapply (owns_load Variants.nat (c : Thread nD τ) none E) $$ H5
  iintro H5
  iapply (owns_store Variants.nat (c : Thread nD τ) none E) $$ H5
  iintro H5
  iapply (t6_wp arg0 harg0 arg1 harg1 arg2 harg2 arg3 harg3 arg4 harg4 arg5 harg5 arg6 harg6 arg7 harg7 c none E fg bx) $$ [H4 H2 H5]
  · isplitl [H4 H2]
    · isplitl [H4]
      · iexact H4
      · iexact H2
    · iapply (owns_eq (c : Thread nD τ) arg5 fullShare ((put_whole (N := 6016) (C := 4) _ _).trans (pay35_eq fg bx)))
      iexact H5
  iintro ⟨⟨H4, H2⟩, H5⟩
  iapply (owns_load Variants.nat (c : Thread nD τ) none E) $$ H6
  iintro H6
  iapply (owns_store Variants.nat (c : Thread nD τ) none E) $$ H6
  iintro H6
  iapply (owns_load Variants.nat (c : Thread nD τ) none E) $$ H7
  iintro H7
  iapply (owns_store Variants.nat (c : Thread nD τ) none E) $$ H7
  iintro H7
  iapply (loop_bind Variants.nat (c : Thread nD τ) none E k0_t8_loop k0_t8_ok _ _
    (fun k acc => nmsI arg5 arg6 arg7 c (srt fg bx) k acc)
    (fun k acc => t8_step arg0 harg0 arg1 harg1 arg2 harg2 arg3 harg3 arg4 harg4 arg5 harg5 arg6 harg6 arg7 harg7 c E (srt fg bx) k acc)) $$ [H5 H6 H7]
  · unfold nmsI
    isplitl [H5]
    · iexact H5
    iexists _
    iexists _
    isplitl [H6]
    · iapply (owns_eq (c : Thread nD τ) arg6 fullShare ((put_whole (N := 512) (C := 4) _ _).trans pay37_eq))
      iexact H6
    isplitl [H7]
    · iapply (owns_eq (c : Thread nD τ) arg7 fullShare ((put_whole (N := 512) (C := 1) _ _).trans pay38_eq))
      iexact H7
    ipureintro
    rw [show (Scalar.ofBits (F := Ideal) .f32 0x00000000#32 : EReal) = 0 from Ideal.ofBits_zero .f32]
    exact nms_init (srt fg bx)
  unfold nmsI
  iintro %acc ⟨H5, %T, %A, H6, H7, %hI⟩
  rw [trips8] at hI
  iapply (owns_load Variants.nat (c : Thread nD τ) none E) $$ H6
  iintro H6
  iapply (owns_load Variants.nat (c : Thread nD τ) none E) $$ H3
  iintro H3
  iapply (owns_store Variants.nat (c : Thread nD τ) none E) $$ H3
  iintro H3
  rw [wp_ret]; imodintro
  iapply HK
  isplitl [H01 H2]
  · isplitl [H01]
    · iexact H01
    · iexact H2
  isplitl [H3]
  · iapply (owns_eq (c : Thread nD τ) arg3 fullShare ((put_whole (N := 300) (C := 4) _ _).trans (out_of_inv (srt fg bx) acc T A hI)))
    iexact H3
  isplitl [H4]
  · iexists _; iexact H4
  isplitl [H5]
  · iexists _; iexact H5
  isplitl [H6]
  · iexists _; iexact H6
  · iexists _; iexact H7

end Cert.Proof.Nms
-- ==== Proof.KHost.lean ====
/-
  The operations that the kernel's program runs before the launch, and what they leave in the launch's operands: the
  scores padded with a value below all of them, in rows and in a column, and the boxes padded with zeros.
-/
module

public import proofs.«01_k».proof.Proof.Words
public import proofs.«01_k».proof.Proof.Gen.KernelIdeal.Launch
public import Idealize.ShloMosaic.Lib.StableHlo.RunRead
public import Idealize.ShloMosaic.Lib.Claim
public import Idealize.ShloMosaic.Lib.Routing.Ops

@[expose] public section

set_option maxRecDepth 16384

noncomputable section

namespace Cert.Proof.Nms

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

abbrev opsA : List (List (HloOp τ sig (Elt Ideal))) :=
  [hostOps0, hostOps0_1, hostOps0_2, hostOps0_3, hostOps0_4, hostOps0_5, hostOps0_6, hostOps0_7, hostOps0_8]

abbrev opsB : List (List (HloOp τ sig (Elt Ideal))) := [hostOps0_9, hostOps0_10, hostOps0_11]

abbrev opss : List (List (HloOp τ sig (Elt Ideal))) :=
  [hostOps0, hostOps0_1, hostOps0_2, hostOps0_3, hostOps0_4, hostOps0_5, hostOps0_6, hostOps0_7, hostOps0_8, hostOps0_9, hostOps0_10, hostOps0_11]

theorem opss_sub : opss.Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub,
    hostOps0_8_sub, hostOps0_9_sub, hostOps0_10_sub, hostOps0_11_sub⟩

theorem opss_fresh : opss.Forall fun ops => ops.Forall fun op => op.fresh = ∅ :=
  ⟨StableHlo.forall_fresh_of_map rfl, StableHlo.forall_fresh_of_map rfl, StableHlo.forall_fresh_of_map rfl, StableHlo.forall_fresh_of_map rfl,
    StableHlo.forall_fresh_of_map rfl, StableHlo.forall_fresh_of_map rfl, StableHlo.forall_fresh_of_map rfl, StableHlo.forall_fresh_of_map rfl,
    StableHlo.forall_fresh_of_map rfl, StableHlo.forall_fresh_of_map rfl, StableHlo.forall_fresh_of_map rfl, StableHlo.forall_fresh_of_map rfl⟩

variable (m : (ℓ : Loc nD τ sig) → Buf (Elt Ideal) ℓ)

/-- A buffer's contents when the launch begins. -/
def V (c : Dev nD) (b : Ref sig .tc) : Buf (Elt Ideal) ((c : Thread nD τ).loc b) :=
  StableHlo.after opss.flatten (fun b => m (c, b)) b

/-- The contents before the two pads. -/
def V1 (c : Dev nD) : Valuation τ sig (Elt Ideal) := StableHlo.after opsA.flatten (fun b => m (c, b))

theorem V_eq (c : Dev nD) (b : Ref sig .tc) :
    V m c b = StableHlo.after hostOps0_11 (StableHlo.after hostOps0_10 (StableHlo.after hostOps0_9 (V1 m c))) (Proc.devRef .tc b) := by
  unfold V V1
  rw [← StableHlo.after_append, ← StableHlo.after_append, ← StableHlo.after_append]
  rfl

theorem tail_arg0 (X : Valuation τ sig (Elt Ideal)) :
    StableHlo.after hostOps0_11 (StableHlo.after hostOps0_10 (StableHlo.after hostOps0_9 X)) (Proc.devRef .tc main_v102)
      = shapeCast S176x128 (pad S22528 ![0] ![28] ![0] (X (Proc.devRef .tc main_v100)) (X (Proc.devRef .tc main_cst_14)) pads_S22500_S22528_0280 h_S_) shapeCasts_S22528_S176x128 := by
  after_reads_simp
  rfl

theorem tail_arg1 (X : Valuation τ sig (Elt Ideal)) :
    StableHlo.after hostOps0_11 (StableHlo.after hostOps0_10 (StableHlo.after hostOps0_9 X)) (Proc.devRef .tc main_v103)
      = shapeCast S22528x1 (pad S22528 ![0] ![28] ![0] (X (Proc.devRef .tc main_v100)) (X (Proc.devRef .tc main_cst_14)) pads_S22500_S22528_0280 h_S_) shapeCasts_S22528_S22528x1 := by
  after_reads_simp
  rfl

theorem tail_arg2 (X : Valuation τ sig (Elt Ideal)) :
    StableHlo.after hostOps0_11 (StableHlo.after hostOps0_10 (StableHlo.after hostOps0_9 X)) (Proc.devRef .tc main_v104)
      = pad S22528x4 ![0, 0] ![28, 0] ![0, 0] (X (Proc.devRef .tc main_v81)) (sitofp (F := Ideal) .f32 (constantI S_ 32 0#32)) pads_S22500x4_S22528x4_0280_000 h_S_ := by
  after_reads_simp
  rfl

theorem arg_unwritten (b : Ref sig .tc) (hb : b = main_arg0 ∨ b = main_arg1 ∨ b = main_arg2 ∨ b = main_arg3) (c : Dev nD) :
    V m c b = m ((c.tc : Thread nD τ).loc b) := by
  unfold V
  rcases hb with rfl | rfl | rfl | rfl <;>
  · simp only [opss, List.flatten_cons, List.flatten_nil, StableHlo.after_append]
    after_reads_simp

theorem V1_pad (c : Dev nD) : V1 m c (Proc.devRef .tc main_cst_14) = (constant (F := Ideal) S_ .f32 0xBF800000#32) := by
  unfold V1
  simp only [opsA, List.flatten_cons, List.flatten_nil, StableHlo.after_append]
  after_reads_simp

/-- The scores, padded with the value the program pads them with. -/
def padS (x : S22500.Idx → EReal) (n : ℕ) : EReal := if h : n < 22500 then x (ix1 ⟨n, h⟩) else Ideal.ofBits .f32 0xBF800000#32

/-- The boxes, padded with zeros. -/
def padB (x : S22500x4.Idx → EReal) (n : ℕ) (j : Fin 4) : EReal := if h : n < 22500 then x (ix2 ⟨n, h⟩ j) else 0

theorem padS_at (x : S22500.Idx → EReal) (p : Fin 22528) :
    pad S22528 ![0] ![28] ![0] x (constant (F := Ideal) S_ .f32 0xBF800000#32) pads_S22500_S22528_0280 h_S_ (ix1 p) = padS x p.val := by
  refine (Routing.pad1 x _ pads_S22500_S22528_0280 h_S_ p).trans ?_
  unfold padS
  by_cases hp : p.val < 22500
  · rw [dif_pos ⟨Nat.zero_le _, by omega⟩, dif_pos hp]
    rfl
  · rw [dif_neg (by omega), dif_neg hp]
    rfl

theorem padB_at (x : S22500x4.Idx → EReal) (v : S_.Idx → EReal) (hv : ∀ i, v i = 0) (p : Fin 22528) (j : Fin 4) :
    pad S22528x4 ![0, 0] ![28, 0] ![0, 0] x v pads_S22500x4_S22528x4_0280_000 h_S_ (ix2 p j) = padB x p.val j := by
  unfold pad padB
  by_cases hp : p.val < 22500
  · rw [dif_pos hp]
    split
    · refine congrArg x (funext fun a => Fin.ext ?_)
      match a with
      | ⟨0, _⟩ => show (p.val - 0) / 1 = p.val; omega
      | ⟨1, _⟩ => show (j.val - 0) / 1 = j.val; omega
    · next hin =>
      refine (hin fun a => ?_).elim
      match a with
      | ⟨0, _⟩ => show 0 ≤ p.val ∧ (p.val - 0) % 1 = 0 ∧ (p.val - 0) / 1 < 22500; omega
      | ⟨1, _⟩ =>
        have := j.isLt
        show 0 ≤ j.val ∧ (j.val - 0) % 1 = 0 ∧ (j.val - 0) / 1 < 4; omega
  · rw [dif_neg hp]
    split
    · next hin =>
      have h0 := hin 0
      change 0 ≤ p.val ∧ (p.val - 0) % 1 = 0 ∧ (p.val - 0) / 1 < 22500 at h0
      omega
    · exact hv _

/-- The scores and the boxes of the program on core `c`. -/
def fgK (c : Dev nD) : ℕ → EReal := padS (V1 m c (Proc.devRef .tc main_v100))
def bxK (c : Dev nD) : ℕ → Fin 4 → EReal := padB (V1 m c (Proc.devRef .tc main_v81))

theorem V_rows (c : Dev nD) : (V m c main_v102 : S176x128.Idx → EReal) = rowC (fgK m c) := by
  rw [V_eq, tail_arg0, V1_pad]
  funext x
  have hx : x = ix2 (x 0) (x 1) := by funext a; fin_cases a <;> rfl
  have h0 : (x 0).val < 176 := (x 0).isLt
  have h1 : (x 1).val < 128 := (x 1).isLt
  rw [hx]
  refine (Routing.cast12 (a := 176) (b := 128) (n := 22528) _ _ (x 0) (x 1) ⟨128 * (x 0).val + (x 1).val, by omega⟩ ?_).trans ?_
  · show 128 * (x 0).val + (x 1).val = (x 0).val * 128 + (x 1).val
    omega
  · exact padS_at _ _

theorem V_col (c : Dev nD) : (V m c main_v103 : S22528x1.Idx → EReal) = colC (fgK m c) := by
  rw [V_eq, tail_arg1, V1_pad]
  funext x
  have hx : x = ix2 (x 0) (x 1) := by funext a; fin_cases a <;> rfl
  have h0 : (x 0).val < 22528 := (x 0).isLt
  have h1 : (x 1).val < 1 := (x 1).isLt
  rw [hx]
  refine (Routing.cast12 (a := 22528) (b := 1) (n := 22528) _ _ (x 0) (x 1) ⟨(x 0).val, h0⟩ ?_).trans ?_
  · show (x 0).val = (x 0).val * 1 + (x 1).val
    omega
  · exact padS_at _ _

theorem V_boxes (c : Dev nD) : (V m c main_v104 : S22528x4.Idx → EReal) = boxC (bxK m c) := by
  rw [V_eq, tail_arg2]
  funext x
  have hx : x = ix2 (x 0) (x 1) := by funext a; fin_cases a <;> rfl
  rw [hx]
  exact padB_at _ _ (fun i => by show (((0#32 : BitVec 32).toInt : ℝ) : EReal) = 0; simp) (x 0) (x 1)

end Cert.Proof.Nms

end
-- ==== Proof.KLaunch.lean ====
/-
  The run of the kernel's program: it terminates, its arguments end unchanged, every counter ends at zero, and its result
  is the table of kept boxes. The launch's set-up follows the library's example of a launch whose body's triple is proved
  by hand.
-/
module

public import proofs.«01_k».proof.Proof.Body
public import proofs.«01_k».proof.Proof.KHost
public import proofs.«01_k».proof.Proof.Gen.KernelIdeal.Points
public import Idealize.ShloMosaic.Lib.Pipeline.FrameBody
public import Idealize.ShloMosaic.Lib.Pipeline.ValueKit

@[expose] public section

set_option maxRecDepth 16384

noncomputable section

namespace Cert.Proof.Nms

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The program up to the launch. -/
theorem hmainK : Pipeline.HMain (Ix := Unit) (Name := ℕ) (U := UR sig nD τ) (Lvl := ℕ) cfgs 0 defs₀ Variants.nat m (main (F := Ideal)) (V m) :=
  Pipeline.hmain_prefixes cfgs 0 defs₀ Variants.nat m main opss opss_sub opss_fresh main_chain

/-- What the launch holds at its one point: the operands as they are, the result as the body leaves it. -/
def dats (_ : Fin 1) (c : Dev nD) : Dat τ (Elt Ideal) Unit ℕ (UR sig nD τ) ℕ (cfg0 (F := Ideal)) c where
  A w := V m c (Pipeline.arrRef spec0 w)
  after w t := match w with
    | ⟨0, _⟩ => rowC (fgK m c)
    | ⟨1, _⟩ => colC (fgK m c)
    | ⟨2, _⟩ => boxC (bxK m c)
    | ⟨3, _⟩ => outC (srt (fgK m c) (bxK m c))
  Φ _ := Pipeline.ΦA spec0 c
  q _ := fullShare
  owed _ := 0

theorem A_eq (c : Dev nD) (w : Fin (cfg0 (F := Ideal)).W) : (dats m 0 c).A w = V m c (Pipeline.arrRef spec0 w) := by
  dsimp only [dats]

theorem after_0 (c : Dev nD) (t : Fin (cfg0 (F := Ideal)).N) : (dats m 0 c).after 0 t = rowC (fgK m c) := by dsimp only [dats]
theorem after_1 (c : Dev nD) (t : Fin (cfg0 (F := Ideal)).N) : (dats m 0 c).after 1 t = colC (fgK m c) := by dsimp only [dats]
theorem after_2 (c : Dev nD) (t : Fin (cfg0 (F := Ideal)).N) : (dats m 0 c).after 2 t = boxC (bxK m c) := by dsimp only [dats]
theorem after_3 (c : Dev nD) (t : Fin (cfg0 (F := Ideal)).N) : (dats m 0 c).after 3 t = outC (srt (fgK m c) (bxK m c)) := by dsimp only [dats]

theorem dats_blk (c : Dev nD) (w : Fin (cfg0 (F := Ideal)).W) (t : Fin (cfg0 (F := Ideal)).N) :
    (dats m 0 c).blockOf w t = (((cfg0 (F := Ideal)).win w).blk t).view.read (Elt Ideal) (V m c (Pipeline.arrRef spec0 w)) := by
  unfold Dat.blockOf
  rw [A_eq]

theorem before_0 (c : Dev nD) (t : Fin (cfg0 (F := Ideal)).N) (d) : (dats m 0 c).before 0 t d = rowC (fgK m c) := by
  rw [Dat.before_fetched _ 0 t (fetch0_0 t), fin_N0 t, ← V_rows]
  funext j
  unfold Dat.fetched Window.fill
  rw [dif_pos (((cfg0 (F := Ideal)).win 0).moved_iff _ j |>.mpr fun a => (j a).isLt)]
  rw [dats_blk]
  refine congrArg (V m c main_v102) (funext fun a => Fin.ext ?_)
  exact Window.rect_emb_val_of_index_zero win0_0 t0_0 a (by fin_cases a <;> rfl) _
theorem before_1 (c : Dev nD) (t : Fin (cfg0 (F := Ideal)).N) (d) : (dats m 0 c).before 1 t d = colC (fgK m c) := by
  rw [Dat.before_fetched _ 1 t (fetch0_1 t), fin_N0 t, ← V_col]
  funext j
  unfold Dat.fetched Window.fill
  rw [dif_pos (((cfg0 (F := Ideal)).win 1).moved_iff _ j |>.mpr fun a => (j a).isLt)]
  rw [dats_blk]
  refine congrArg (V m c main_v103) (funext fun a => Fin.ext ?_)
  exact Window.rect_emb_val_of_index_zero win0_1 t0_0 a (by fin_cases a <;> rfl) _
theorem before_2 (c : Dev nD) (t : Fin (cfg0 (F := Ideal)).N) (d) : (dats m 0 c).before 2 t d = boxC (bxK m c) := by
  rw [Dat.before_fetched _ 2 t (fetch0_2 t), fin_N0 t, ← V_boxes]
  funext j
  unfold Dat.fetched Window.fill
  rw [dif_pos (((cfg0 (F := Ideal)).win 2).moved_iff _ j |>.mpr fun a => (j a).isLt)]
  rw [dats_blk]
  refine congrArg (V m c main_v104) (funext fun a => Fin.ext ?_)
  exact Window.rect_emb_val_of_index_zero win0_2 t0_0 a (by fin_cases a <;> rfl) _

/-- What the body is called with, the windows one by one, -/
def bodyPre (c : Dev nD) (t : Fin (cfg0 (F := Ideal)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin (cfg0 (F := Ideal)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The scratch buffers, as the body takes them. -/
theorem scratch_eq (c : Dev nD) :
    (Pipeline.ΦA (U := UR sig nD τ) spec0 c : sProp 𝕄)
      = iprop(((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d))
          ∗ ∃ r, prngReg c r) := by
  unfold Pipeline.ΦA
  rw [scopedRest0_eq]
  simp only [owns_whole]

theorem sound_body (c : Dev nD) (t : Fin (cfg0 (F := Ideal)).N) :
    bodyPre m c t ⊢ wp frame (wpE (defs₀ (F := Ideal)) Variants.nat c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after_0, after_1, after_2, after_3, scratch_eq]
  iintro ⟨⟨HS, HR⟩, Ho, ⟨%d0, H0⟩, ⟨%d1, H1⟩, ⟨%d2, H2⟩, ⟨%d3, H3⟩⟩
  iapply (body_wp _ _ _ _ _ _ _ _ _ _ _ _ _ _ _ _ c Set.univ (fgK m c) (bxK m c) _)
  unfold bodyIn bodyTmp
  isplitl [H0 H1 H2]
  · isplitl [H0 H1]
    · isplitl [H0]; · iexact H0
      iexact H1
    · iexact H2
  isplitl [H3]; · iexists _; iexact H3
  isplitl [HS]; · iexact HS
  iintro ⟨⟨⟨H0, H1⟩, H2⟩, H3, HS⟩
  isplitl [HS HR]
  · isplitl [HS]; · iexact HS
    iexact HR
  isplitl [Ho]; · iexact Ho
  isplitl [H0]; · iexact H0
  isplitl [H1]; · iexact H1
  isplitl [H2]; · iexact H2
  iexact H3

theorem defs₀_row (t : Fin (cfg0 (F := Ideal)).N) :
    defs₀ (F := Ideal) .tc (cfg0 (F := Ideal)).body ((cfg0 (F := Ideal)).bodyArgs t ((cfg0 (F := Ideal)).slots t)) = bodyAt0 t := by
  unfold defs₀; rw [Defs.onTc_tc]

theorem body_obligation (c : Dev nD) : BodyObligation (dats m 0 c) (defs₀ (F := Ideal)) Variants.nat () Set.univ := fun t => by
  rw [bigSep_W0, bigSep_W0, defs₀_row]
  exact triple_restated (sound_body m c t) rfl .rfl fun _ => .rfl

set_option backward.isDefEq.respectTransparency.types false in
theorem run_quiescent : θ_run (defs (F := Ideal)) (onTc (τ := τ) (main (F := Ideal))) ⟨m, fun _ => 0, ρ⟩
    (fun r => (Pipeline.FramePost cfgs (dats m) 0 (V m)) r ∧ r.2.sem = fun _ => 0) :=
  Pipeline.θ_run_frame (Q' := _) cfgs (dats m) (0 : Fin 1) launch0 defs₀ Variants.nat m ρ main
    (hbody := fun c => (body_obligation m c).loose) (hshare := fun c => (dats m 0 c).share_full fun _ => rfl)
    (howed := fun _ _ => rfl) (V := V m) (hmain := hmainK m) (hA := A_eq m) (hΦ := fun _ _ => rfl)

/-- The result on core `c`. -/
def resK (c : Dev nD) : S300x4.Idx → EReal := outC (srt (fgK m c) (bxK m c))

theorem arr_3 (c : Dev nD) : (dats m 0 c).arrAt 3 (cfg0 (F := Ideal)).N = resK m c := by
  refine (dats m 0 c).arrAt_eq_of_after_last 3 t0_0 (by decide +kernel) _ fun j => ?_
  rw [after_3]
  rfl

/-- The run: the result is the table of kept boxes, the arguments end unchanged, every counter ends at zero. -/
theorem kernel_run : θ_run (defs (F := Ideal)) (onTc (τ := τ) (main (F := Ideal))) ⟨m, fun _ => 0, ρ⟩ (fun r => (∀ c : Dev nD,
      r.2.mem ((c.tc : Thread nD τ).loc main_v105) = resK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => ⟨((h.1 c).1 3).trans (arr_3 m c),
    ((h.1 c).2 main_arg0 (Pipeline.mem_restRefs_of main_arg0 (by decide) (by decide))).trans (arg_unwritten m _ (Or.inl rfl) c),
    ((h.1 c).2 main_arg1 (Pipeline.mem_restRefs_of main_arg1 (by decide) (by decide))).trans (arg_unwritten m _ (Or.inr (Or.inl rfl)) c),
    ((h.1 c).2 main_arg2 (Pipeline.mem_restRefs_of main_arg2 (by decide) (by decide))).trans (arg_unwritten m _ (Or.inr (Or.inr (Or.inl rfl))) c),
    ((h.1 c).2 main_arg3 (Pipeline.mem_restRefs_of main_arg3 (by decide) (by decide))).trans (arg_unwritten m _ (Or.inr (Or.inr (Or.inr rfl))) c)⟩, h.2⟩)
    (run_quiescent m ρ)

end Cert.Proof.Nms

end
-- ==== Proof.RRun.lean ====
/-
  The reference's run: its arguments end unchanged, and its result is the last operations' value at the loop's end.
-/
module

public import proofs.«01_k».proof.Proof.Gen.ReferenceIdeal.Run
public import proofs.«01_k».proof.Proof.Spec
public import proofs.«01_k».proof.Proof.Words
public import Idealize.ShloMosaic.Lib.Quiescent
public import Idealize.ShloMosaic.Lib.Claim

@[expose] public section

set_option maxRecDepth 16384

noncomputable section

namespace Cert.Proof.NmsRef

open Idealize.ShloMosaic Idealize.ShloMosaic.TcCoe Idealize.ShloMosaic.Tactic Idealize.ShloMosaic.StableHlo
open Idealize.SL.Sem
open Cert.ReferenceIdeal Cert.ReferenceIdeal.Gen Cert.ReferenceIdeal.Value

variable (m : (ℓ : Loc nD τ sig) → Buf (Elt Ideal) ℓ) (ρ : Dev nD → PrngReg)

/-- What the loop writes. -/
abbrev loopW : List (Ref sig .tc) := condOps_W ++ (while0Ops0_W ++ (while0Ops0_1_W ++ (while0Ops0_2_W ++ (while0Ops0_3_W ++ while0Ops0_4_W))))

theorem trip_keep (X : Valuation τ sig (Elt Ideal)) (r : Ref sig .tc) (h : r ∉ loopW) :
    afterL bodyI (after condOps X) (Proc.devRef .tc r) = X (Proc.devRef .tc r) := by
  simp only [loopW, List.mem_append, not_or] at h
  obtain ⟨hc, h0, h1, h2, h3, h4⟩ := h
  simp only [bodyI, afterL_cons, afterL_nil]
  rw [after_of_writes_sub _ _ while0Ops0_4_writes h4, after_of_writes_sub _ _ while0Ops0_3_writes h3,
    after_of_writes_sub _ _ while0Ops0_2_writes h2, after_of_writes_sub _ _ while0Ops0_1_writes h1,
    after_of_writes_sub _ _ while0Ops0_writes h0, after_of_writes_sub _ _ condOps_writes hc]

theorem atK_keep (c : Dev nD) (r : Ref sig .tc) (h : r ∉ loopW) (k : ℕ) :
    atK m k c (Proc.devRef .tc r) = entryContents preI m c (Proc.devRef .tc r) := by
  induction k with
  | zero => rfl
  | succ k ih => exact (trip_keep _ r h).trans ih

theorem pre_arg (c : Dev nD) (b : Ref sig .tc) (hb : b = main_arg0 ∨ b = main_arg1 ∨ b = main_arg2 ∨ b = main_arg3) :
    entryContents preI m c (Proc.devRef .tc b) = m ((c.tc : Thread nD τ).loc b) := by
  have h : b ∉ hostOps0_W ∧ b ∉ hostOps0_1_W ∧ b ∉ hostOps0_2_W ∧ b ∉ hostOps0_3_W ∧ b ∉ hostOps0_4_W ∧ b ∉ hostOps0_5_W
      ∧ b ∉ hostOps0_6_W ∧ b ∉ hostOps0_7_W ∧ b ∉ hostOps0_8_W ∧ b ∉ hostOps0_9_W ∧ b ∉ hostOps0_10_W := by
    rcases hb with rfl | rfl | rfl | rfl <;> decide +kernel
  obtain ⟨h0, h1, h2, h3, h4, h5, h6, h7, h8, h9, h10⟩ := h
  simp only [entryContents, preI, afterL_cons, afterL_nil]
  rw [after_of_writes_sub _ _ hostOps0_10_writes h10, after_of_writes_sub _ _ hostOps0_9_writes h9,
    after_of_writes_sub _ _ hostOps0_8_writes h8, after_of_writes_sub _ _ hostOps0_7_writes h7,
    after_of_writes_sub _ _ hostOps0_6_writes h6, after_of_writes_sub _ _ hostOps0_5_writes h5,
    after_of_writes_sub _ _ hostOps0_4_writes h4, after_of_writes_sub _ _ hostOps0_3_writes h3,
    after_of_writes_sub _ _ hostOps0_2_writes h2, after_of_writes_sub _ _ hostOps0_1_writes h1,
    after_of_writes_sub _ _ hostOps0_writes h0]

theorem final_arg (c : Dev nD) (b : Ref sig .tc) (hb : b = main_arg0 ∨ b = main_arg1 ∨ b = main_arg2 ∨ b = main_arg3) :
    finalContents condOps preI bodyI postI 6000 m c (Proc.devRef .tc b) = m ((c.tc : Thread nD τ).loc b) := by
  have hl : b ∉ loopW ∧ b ∉ condOps_W := by rcases hb with rfl | rfl | rfl | rfl <;> decide +kernel
  have hp : afterL postI (after condOps (atK m 6000 c)) (Proc.devRef .tc b) = after condOps (atK m 6000 c) (Proc.devRef .tc b) := by
    simp only [postI, afterL_cons, afterL_nil]
    rcases hb with rfl | rfl | rfl | rfl <;> after_reads_simp
  exact hp.trans ((after_of_writes_sub _ _ condOps_writes hl.2).trans ((atK_keep m c b hl.1 6000).trans (pre_arg m c b hb)))

/-- The reference's result on core `c`. -/
def resR (c : Dev nD) : S300x4.Idx → EReal := finalContents condOps preI bodyI postI 6000 m c (Proc.devRef .tc main_v147)

/-- The run: the arguments end unchanged and every counter ends at zero. -/
theorem reference_run : θ_run (defs (F := Ideal)) (onTc (τ := τ) (main (F := Ideal))) ⟨m, fun _ => 0, ρ⟩ (fun r => (∀ c : Dev nD,
      r.2.mem ((c.tc : Thread nD τ).loc main_v147) = resR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => ⟨h c main_v147 (by decide),
    (h c main_arg0 (by decide)).trans (final_arg m c _ (Or.inl rfl)),
    (h c main_arg1 (by decide)).trans (final_arg m c _ (Or.inr (Or.inl rfl))),
    (h c main_arg2 (by decide)).trans (final_arg m c _ (Or.inr (Or.inr (Or.inl rfl)))),
    (h c main_arg3 (by decide)).trans (final_arg m c _ (Or.inr (Or.inr (Or.inr rfl))))⟩, sem_eq_zero_of_no_sems rfl r.2⟩)
    (run_fold m ρ)

end Cert.Proof.NmsRef

end
-- ==== Proof.Order.lean ====
/-
  The stable sort of scores, the larger first: the place it puts at position `k` is the place of rank `k`, and of scores
  that already fall it is the identity.
-/
module

public import proofs.«01_k».proof.Proof.Spec
public import Idealize.ShloMosaic.Lib.SortPrefix

@[expose] public section

noncomputable section

namespace Cert.Proof.Nms

open Idealize.ShloMosaic
open scoped Classical

section
variable {n : ℕ} (x : Fin n → EReal)

/-- `a`'s score is larger than `b`'s. -/
def gtB (a b : Fin n) : Bool := decide (x b < x a)

/-- `a`'s score is larger than `b`'s, or they are equal and `a` is first. -/
def firstB (a b : Fin n) : Bool := decide (x b < x a ∨ (x a = x b ∧ a < b))

theorem firstB_iff (a b : Fin n) : firstB x a b = true ↔ (x b < x a ∨ (x a = x b ∧ a < b)) := by simp [firstB]

theorem firstB_total : StrictTotalBefore (firstB x) where
  irrefl a := by simp [firstB]
  trans a b c hab hbc := by
    rw [firstB_iff] at *
    rcases hab with h | ⟨h, h'⟩ <;> rcases hbc with g | ⟨g, g'⟩
    · exact Or.inl (lt_trans g h)
    · exact Or.inl (g ▸ h)
    · exact Or.inl (h ▸ g)
    · exact Or.inr ⟨h.trans g, lt_trans h' g'⟩
  total a b hne := by
    rw [firstB_iff, firstB_iff]
    rcases lt_trichotomy (x a) (x b) with h | h | h
    · exact Or.inr (Or.inl h)
    · rcases lt_or_gt_of_ne hne with g | g
      · exact Or.inl (Or.inr ⟨h, g⟩)
      · exact Or.inr (Or.inr ⟨h.symm, g⟩)
    · exact Or.inl (Or.inl h)

theorem stableSort_gtB (l : List (Fin n)) (hl : l.Pairwise (· < ·)) : stableSort (gtB x) l = stableSort (firstB x) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    have : ¬ b < a := not_lt.2 hab.le
    simp [gtB, firstB, this]

/-- The place that the sort puts at each position. -/
def ord : Fin n → Fin n := sortedFrom (gtB x)

theorem ord_eq : ord x = sortedFrom (firstB x) := by
  funext k
  unfold ord sortedFrom sortPositions
  rw [List.get_of_eq (stableSort_gtB x _ (List.pairwise_lt_finRange n))]
  rfl

theorem ord_injective : Function.Injective (ord x) := by
  rw [ord_eq]; exact sortedFrom_injective _

theorem ord_bijective : Function.Bijective (ord x) := Finite.injective_iff_bijective.1 (ord_injective x)

theorem firstB_ord {i j : Fin n} : firstB x (ord x i) (ord x j) = true ↔ i < j := by
  have key : ∀ a b : Fin n, a < b → firstB x (ord x a) (ord x b) = true := fun a b hab => by
    have h := sortedFrom_noInversion (firstB x) (firstB x) (fun _ _ h => (firstB_total x).asymm _ _ h) (fun _ _ h => h)
      (firstB_total x).negTrans a b hab
    rw [← ord_eq] at h
    rcases (firstB_total x).total (ord x a) (ord x b) (fun e => hab.ne (ord_injective x e)) with g | g
    · exact g
    · rw [g] at h; exact absurd h (by decide)
  refine ⟨fun h => ?_, key i j⟩
  rcases lt_trichotomy i j with g | g | g
  · exact g
  · subst g; rw [(firstB_total x).irrefl] at h; exact absurd h (by decide)
  · rw [(firstB_total x).asymm _ _ (key j i g)] at h; exact absurd h (by decide)

/-- The scores in the sort's order fall. -/
theorem ord_antitone {i j : Fin n} (h : i ≤ j) : x (ord x j) ≤ x (ord x i) := by
  rcases h.eq_or_lt with rfl | h
  · exact le_rfl
  · rcases (firstB_iff x _ _).1 ((firstB_ord x).2 h) with g | g
    · exact g.le
    · exact g.1.ge

/-- Scores that fall are in their order. -/
theorem ord_id (hx : ∀ i j : Fin n, i ≤ j → x j ≤ x i) (k : Fin n) : ord x k = k := by
  rw [ord_eq]
  refine (firstB_total x).sortedFrom_eq_of_prefix le_rfl id Function.injective_id (fun i j hij => ?_) (fun i p hp => absurd rfl (hp p)) k
  refine decide_eq_false ?_
  rintro (h | ⟨-, h⟩)
  · exact absurd h (not_lt.2 (hx i j hij.le))
  · exact absurd h (not_lt.2 hij.le)

/-- How many places come before the one at position `k`. -/
theorem card_first (k : Fin n) : (Finset.univ.filter fun a => firstB x a (ord x k) = true).card = k.val := by
  have : (Finset.univ.filter fun a => firstB x a (ord x k) = true) = (Finset.univ.filter fun i => i < k).image (ord x) := by
    ext a
    simp only [Finset.mem_filter, Finset.mem_univ, true_and, Finset.mem_image]
    constructor
    · intro h
      obtain ⟨i, rfl⟩ := (ord_bijective x).2 a
      exact ⟨i, (firstB_ord x).1 h, rfl⟩
    · rintro ⟨i, hi, rfl⟩
      exact (firstB_ord x).2 hi
  rw [this, Finset.card_image_of_injective _ (ord_injective x)]
  refine Eq.trans (congrArg Finset.card (?_ : _ = Finset.Iio k)) (Fin.card_Iio k)
  ext i
  rw [Finset.mem_filter, Finset.mem_Iio]
  exact ⟨fun h => h.2, fun h => ⟨Finset.mem_univ _, h⟩⟩

end

/-! ## The rank of a padded list -/

variable {n N : ℕ} (x : Fin n → EReal) (v : EReal) (fg : ℕ → EReal)

theorem rank_ord (hN : N = 22528) (hn : n ≤ N) (hfg : ∀ i : Fin n, fg i.val = x i) (hpad : ∀ j, n ≤ j → ∀ i : Fin n, fg j ≤ x i) (k : Fin n) :
    rank fg (ord x k).val = (k.val : EReal) := by
  subst hN
  unfold rank
  rw [sum_ind_card]
  refine congrArg Nat.cast ?_
  rw [← card_first x k]
  refine (Finset.card_bij (fun a _ => a.val) ?_ ?_ ?_).symm
  · intro a ha
    rw [Finset.mem_filter, firstB_iff] at ha
    rw [Finset.mem_filter, Finset.mem_range]
    refine ⟨lt_of_lt_of_le a.isLt hn, ?_⟩
    unfold beats
    rw [hfg, hfg]
    exact ha.2
  · intro a _ b _ h
    exact Fin.ext h
  · intro j hj
    rw [Finset.mem_filter] at hj
    have hlt : j < n := by
      by_contra hge
      rw [not_lt] at hge
      rcases hj.2 with h | h
      · rw [hfg] at h
        exact absurd h (not_lt.2 (hpad j hge _))
      · have := (ord x k).isLt
        omega
    refine ⟨⟨j, hlt⟩, ?_, rfl⟩
    rw [Finset.mem_filter, firstB_iff]
    refine ⟨Finset.mem_univ _, ?_⟩
    have := hj.2
    unfold beats at this
    rw [hfg, show fg j = x ⟨j, hlt⟩ from hfg ⟨j, hlt⟩] at this
    exact this

/-- The box of rank `k` is the box at the sort's position `k`. -/
theorem srt_ord (hn : n ≤ 22528) (bx : ℕ → Fin 4 → EReal) (hfg : ∀ i : Fin n, fg i.val = x i)
    (hpad : ∀ j, n ≤ j → ∀ i : Fin n, fg j ≤ x i) (hbx : ∀ j, n ≤ j → ∀ c, bx j c = 0) (k : Fin n) (c : Fin 4) :
    srt fg bx k.val c = bx (ord x k).val c := by
  unfold srt srtUpTo
  rw [Finset.sum_eq_single (ord x k).val]
  · rw [ind_true (rank_ord x fg rfl hn hfg hpad k), one_mul]
  · intro j hj hne
    by_cases hlt : j < n
    · obtain ⟨i, hi⟩ := (ord_bijective x).2 ⟨j, hlt⟩
      rw [ind_false, zero_mul]
      intro h
      have hr := rank_ord x fg rfl hn hfg hpad i
      rw [hi] at hr
      have : i.val = k.val := by exact_mod_cast hr.symm.trans h
      have : i = k := Fin.ext this
      subst this
      exact hne (congrArg Fin.val hi).symm
    · rw [hbx j (not_lt.1 hlt), mul_zero]
  · intro h
    rw [Finset.mem_range, not_lt] at h
    have := (ord x k).isLt
    omega

end Cert.Proof.Nms

end
-- ==== Proof.Same.lean ====
/-
  The two programs compute the scores and the boxes by the same operations, so from equal arguments they are equal.
-/
module

public import proofs.«01_k».proof.Proof.KHost
public import proofs.«01_k».proof.Proof.RRun

@[expose] public section

set_option maxRecDepth 16384

noncomputable section

namespace Cert.Proof.Same

open Idealize.ShloMosaic Idealize.ShloMosaic.TcCoe Idealize.ShloMosaic.Tactic Idealize.ShloMosaic.StableHlo
open Idealize.SL.Sem

/-- The contents of the reference's buffers before its sort. -/
abbrev preA : List (List (HloOp ReferenceIdeal.τ ReferenceIdeal.sig (Elt Ideal))) :=
  [ReferenceIdeal.Gen.hostOps0, ReferenceIdeal.Gen.hostOps0_1, ReferenceIdeal.Gen.hostOps0_2, ReferenceIdeal.Gen.hostOps0_3, ReferenceIdeal.Gen.hostOps0_4,
    ReferenceIdeal.Gen.hostOps0_5, ReferenceIdeal.Gen.hostOps0_6, ReferenceIdeal.Gen.hostOps0_7, ReferenceIdeal.Gen.hostOps0_8]

variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ)
variable (c : Dev KernelIdeal.nD) (c' : Dev ReferenceIdeal.nD)

theorem scores_same (h2 : m (c, Proc.devRef .tc KernelIdeal.main_arg2) = m' (c', Proc.devRef .tc ReferenceIdeal.main_arg2)) :
    (Nms.V1 m c (Proc.devRef .tc KernelIdeal.main_v100) : KernelIdeal.S22500.Idx → EReal)
      = after preA.flatten (fun b => m' (c', b)) (Proc.devRef .tc ReferenceIdeal.main_v100) := by
  unfold Nms.V1
  simp only [Nms.opsA, preA, List.flatten_cons, List.flatten_nil, StableHlo.after_append]
  after_reads_simp
  rw [h2]
  rfl

/-- Four columns joined. -/
def join4 (x y z w : KernelIdeal.S22500.Idx → EReal) : KernelIdeal.S22500x4.Idx → EReal :=
  concatenate KernelIdeal.S22500x4 1
    [⟨KernelIdeal.S22500x1, broadcastInDim KernelIdeal.S22500x1 ![0] KernelIdeal.Gen.bcast_S22500_S22500x1_0 x⟩,
      ⟨KernelIdeal.S22500x1, broadcastInDim KernelIdeal.S22500x1 ![0] KernelIdeal.Gen.bcast_S22500_S22500x1_0 y⟩,
      ⟨KernelIdeal.S22500x1, broadcastInDim KernelIdeal.S22500x1 ![0] KernelIdeal.Gen.bcast_S22500_S22500x1_0 z⟩,
      ⟨KernelIdeal.S22500x1, broadcastInDim KernelIdeal.S22500x1 ![0] KernelIdeal.Gen.bcast_S22500_S22500x1_0 w⟩]
    KernelIdeal.Gen.concatenates_S22500x1_S22500x1_S22500x1_S22500x1_S22500x4_d1

theorem joinK (X : Valuation KernelIdeal.τ KernelIdeal.sig (Elt Ideal)) :
    after KernelIdeal.Gen.hostOps0_8 X (Proc.devRef .tc KernelIdeal.main_v81)
      = join4 (X (Proc.devRef .tc KernelIdeal.main_v67)) (X (Proc.devRef .tc KernelIdeal.main_v70))
          (X (Proc.devRef .tc KernelIdeal.main_v73)) (X (Proc.devRef .tc KernelIdeal.main_v76)) := by
  after_reads_simp
  rfl

theorem joinR (X : Valuation ReferenceIdeal.τ ReferenceIdeal.sig (Elt Ideal)) :
    after ReferenceIdeal.Gen.hostOps0_8 X (Proc.devRef .tc ReferenceIdeal.main_v81)
      = join4 (X (Proc.devRef .tc ReferenceIdeal.main_v67)) (X (Proc.devRef .tc ReferenceIdeal.main_v70))
          (X (Proc.devRef .tc ReferenceIdeal.main_v73)) (X (Proc.devRef .tc ReferenceIdeal.main_v76)) := by
  after_reads_simp
  rfl

theorem join0K (X : Valuation KernelIdeal.τ KernelIdeal.sig (Elt Ideal)) :
    after KernelIdeal.Gen.hostOps0 X (Proc.devRef .tc KernelIdeal.main_v58)
      = join4 (after KernelIdeal.Gen.hostOps0 X (Proc.devRef .tc KernelIdeal.main_v44)) (after KernelIdeal.Gen.hostOps0 X (Proc.devRef .tc KernelIdeal.main_v47))
          (after KernelIdeal.Gen.hostOps0 X (Proc.devRef .tc KernelIdeal.main_v50)) (after KernelIdeal.Gen.hostOps0 X (Proc.devRef .tc KernelIdeal.main_v53)) := by
  after_reads_simp
  rfl

theorem join0R (X : Valuation ReferenceIdeal.τ ReferenceIdeal.sig (Elt Ideal)) :
    after ReferenceIdeal.Gen.hostOps0 X (Proc.devRef .tc ReferenceIdeal.main_v58)
      = join4 (after ReferenceIdeal.Gen.hostOps0 X (Proc.devRef .tc ReferenceIdeal.main_v44)) (after ReferenceIdeal.Gen.hostOps0 X (Proc.devRef .tc ReferenceIdeal.main_v47))
          (after ReferenceIdeal.Gen.hostOps0 X (Proc.devRef .tc ReferenceIdeal.main_v50)) (after ReferenceIdeal.Gen.hostOps0 X (Proc.devRef .tc ReferenceIdeal.main_v53)) := by
  after_reads_simp
  rfl

theorem col66K (X : Valuation KernelIdeal.τ KernelIdeal.sig (Elt Ideal)) :
    (after KernelIdeal.Gen.hostOps0 X (Proc.devRef .tc KernelIdeal.main_v66) : KernelIdeal.S22500.Idx → EReal)
      = shapeCast KernelIdeal.S22500 (extractStridedSlice KernelIdeal.S22500x1 ![0, 0] (after KernelIdeal.Gen.hostOps0 X (Proc.devRef .tc KernelIdeal.main_v58)) KernelIdeal.Gen.slices_S22500x4_S22500x1_0_0)
          KernelIdeal.Gen.shapeCasts_S22500x1_S22500 := by
  after_reads_simp
  rfl

theorem col66R (X : Valuation ReferenceIdeal.τ ReferenceIdeal.sig (Elt Ideal)) :
    (after ReferenceIdeal.Gen.hostOps0 X (Proc.devRef .tc ReferenceIdeal.main_v66) : KernelIdeal.S22500.Idx → EReal)
      = shapeCast KernelIdeal.S22500 (extractStridedSlice KernelIdeal.S22500x1 ![0, 0] (after ReferenceIdeal.Gen.hostOps0 X (Proc.devRef .tc ReferenceIdeal.main_v58)) KernelIdeal.Gen.slices_S22500x4_S22500x1_0_0)
          KernelIdeal.Gen.shapeCasts_S22500x1_S22500 := by
  after_reads_simp
  rfl

/-! ## The clipped columns -/

/-- What the two programs' contents agree on before the columns are clipped. -/
structure Same0 (X : Valuation KernelIdeal.τ KernelIdeal.sig (Elt Ideal)) (Y : Valuation ReferenceIdeal.τ ReferenceIdeal.sig (Elt Ideal)) : Prop where
  v58 : X (Proc.devRef .tc KernelIdeal.main_v58) = Y (Proc.devRef .tc ReferenceIdeal.main_v58)
  v61 : X (Proc.devRef .tc KernelIdeal.main_v61) = Y (Proc.devRef .tc ReferenceIdeal.main_v61)
  v64 : X (Proc.devRef .tc KernelIdeal.main_v64) = Y (Proc.devRef .tc ReferenceIdeal.main_v64)
  v66 : X (Proc.devRef .tc KernelIdeal.main_v66) = Y (Proc.devRef .tc ReferenceIdeal.main_v66)
  c7 : X (Proc.devRef .tc KernelIdeal.main_cst_7) = Y (Proc.devRef .tc ReferenceIdeal.main_cst_7)

/-- The contents before the boxes' columns are joined. -/
abbrev X7 (X : Valuation KernelIdeal.τ KernelIdeal.sig (Elt Ideal)) : Valuation KernelIdeal.τ KernelIdeal.sig (Elt Ideal) :=
  after KernelIdeal.Gen.hostOps0_7 (after KernelIdeal.Gen.hostOps0_6 (after KernelIdeal.Gen.hostOps0_5 (after KernelIdeal.Gen.hostOps0_4
    (after KernelIdeal.Gen.hostOps0_3 (after KernelIdeal.Gen.hostOps0_2 (after KernelIdeal.Gen.hostOps0_1 X))))))
abbrev Y7 (Y : Valuation ReferenceIdeal.τ ReferenceIdeal.sig (Elt Ideal)) : Valuation ReferenceIdeal.τ ReferenceIdeal.sig (Elt Ideal) :=
  after ReferenceIdeal.Gen.hostOps0_7 (after ReferenceIdeal.Gen.hostOps0_6 (after ReferenceIdeal.Gen.hostOps0_5 (after ReferenceIdeal.Gen.hostOps0_4
    (after ReferenceIdeal.Gen.hostOps0_3 (after ReferenceIdeal.Gen.hostOps0_2 (after ReferenceIdeal.Gen.hostOps0_1 Y))))))

section
variable {X : Valuation KernelIdeal.τ KernelIdeal.sig (Elt Ideal)} {Y : Valuation ReferenceIdeal.τ ReferenceIdeal.sig (Elt Ideal)} (h : Same0 X Y)
include h

theorem col67 : (X7 X (Proc.devRef .tc KernelIdeal.main_v67) : KernelIdeal.S22500.Idx → EReal) = Y7 Y (Proc.devRef .tc ReferenceIdeal.main_v67) := by
  after_reads_simp
  rw [h.v61, h.v66, h.c7]

theorem col70 : (X7 X (Proc.devRef .tc KernelIdeal.main_v70) : KernelIdeal.S22500.Idx → EReal) = Y7 Y (Proc.devRef .tc ReferenceIdeal.main_v70) := by
  after_reads_simp
  rw [h.v58, h.v64]
  rfl
theorem col73 : (X7 X (Proc.devRef .tc KernelIdeal.main_v73) : KernelIdeal.S22500.Idx → EReal) = Y7 Y (Proc.devRef .tc ReferenceIdeal.main_v73) := by
  after_reads_simp
  rw [h.v58, h.v61]
  rfl
theorem col76 : (X7 X (Proc.devRef .tc KernelIdeal.main_v76) : KernelIdeal.S22500.Idx → EReal) = Y7 Y (Proc.devRef .tc ReferenceIdeal.main_v76) := by
  after_reads_simp
  rw [h.v58, h.v64]
  rfl
end

section
variable (h0 : m (c, Proc.devRef .tc KernelIdeal.main_arg0) = m' (c', Proc.devRef .tc ReferenceIdeal.main_arg0))
  (h1 : m (c, Proc.devRef .tc KernelIdeal.main_arg1) = m' (c', Proc.devRef .tc ReferenceIdeal.main_arg1))
  (h3 : m (c, Proc.devRef .tc KernelIdeal.main_arg3) = m' (c', Proc.devRef .tc ReferenceIdeal.main_arg3))
include h0 h1 h3

theorem same0 : Same0 (after KernelIdeal.Gen.hostOps0 (fun b => m (c, b))) (after ReferenceIdeal.Gen.hostOps0 (fun b => m' (c', b))) := by
  have h58 : (after KernelIdeal.Gen.hostOps0 (fun b => m (c, b)) (Proc.devRef .tc KernelIdeal.main_v58) : KernelIdeal.S22500x4.Idx → EReal)
      = after ReferenceIdeal.Gen.hostOps0 (fun b => m' (c', b)) (Proc.devRef .tc ReferenceIdeal.main_v58) := by
    refine (join0K _).trans (Eq.trans ?_ (join0R _).symm)
    refine congr (congr (congrArg₂ join4 ?_ ?_) ?_) ?_ <;>
    · after_reads_simp
      rw [h0, h1]
      rfl
  refine ⟨h58, ?_, ?_, ?_, ?_⟩
  · after_reads_simp
    rw [h3]
    rfl
  · after_reads_simp
    rw [h3]
    rfl
  · refine (col66K _).trans (Eq.trans ?_ (col66R _).symm)
    rw [h58]
  · after_reads_simp

theorem boxes_same :
    (Nms.V1 m c (Proc.devRef .tc KernelIdeal.main_v81) : KernelIdeal.S22500x4.Idx → EReal)
      = after preA.flatten (fun b => m' (c', b)) (Proc.devRef .tc ReferenceIdeal.main_v81) := by
  have h := same0 m m' c c' h0 h1 h3
  unfold Nms.V1
  simp only [Nms.opsA, preA, List.flatten_cons, List.flatten_nil, StableHlo.after_append, StableHlo.after_nil]
  refine (joinK _).trans (Eq.trans ?_ (joinR _).symm)
  exact congr (congr (congrArg₂ join4 (col67 h) (col70 h)) (col73 h)) (col76 h)
end

end Cert.Proof.Same

end
-- ==== Proof.RLoop.lean ====
/-
  The reference's loop over the sorted boxes: before trip `k` the boxes already dropped are those that an earlier kept box
  hits, the table holds the places of the kept boxes in order, and the count is of the kept boxes, up to 300.
-/
module

public import proofs.«01_k».proof.Proof.RRun
public import proofs.«01_k».proof.Proof.Spec
public import proofs.«01_k».proof.Proof.Pay
public import Idealize.ShloMosaic.Lib.Routing.Ops
public import Idealize.ShloMosaic.Lib.Routing.OpsOne
public import Idealize.ShloMosaic.Lib.WordCmp
public import Idealize.ShloMosaic.Lib.DynamicIndex

@[expose] public section

set_option maxRecDepth 16384

noncomputable section

namespace Cert.Proof.NmsRef

open Idealize.ShloMosaic Idealize.ShloMosaic.TcCoe Idealize.ShloMosaic.Tactic Idealize.ShloMosaic.StableHlo
open Idealize.ShloMosaic.ValueIdx (eq_ix0)
open Idealize.ShloMosaic.WordCmp (andi_ofBool ori_ofBool)
open Idealize.SL.Sem
open Cert.ReferenceIdeal Cert.ReferenceIdeal.Gen Cert.ReferenceIdeal.Value
open Cert.Proof.Nms (kept cnt hit area inter thr eps toInt_small cmpi_slt_small kept_iff cnt_succ cnt_mono cnt_lt_of_kept)
open scoped Classical

/-! ## Words -/

/-- A slice of one entry, at a place within the array. -/
theorem slice_at {α : Type} {N : ℕ} (x : (⟨1, ![N]⟩ : Shape).Idx → α) (st : Fin 1 → ℤ) (h : (⟨1, ![N]⟩ : Shape).Slices (fun _ => 0) S1)
    (h' : S1.ShapeCasts S_) (i : Fin N) (hst : st 0 = i.val) : shapeCast S_ (Host.dynamicSlice S1 x st h) h' ix0 = x (ix1 i) := by
  refine (shapeCast_apply (Host.dynamicSlice S1 x st h) h' ix0 (ix1 (0 : Fin 1)) (by decide)).trans ?_
  have hs : (⟨1, ![N]⟩ : Shape).Slices (fun _ => i.val) S1 := ⟨rfl, fun a => by
    match a with
    | ⟨0, _⟩ =>
      have := i.isLt
      show i.val + 1 ≤ N
      omega⟩
  rw [Host.dynamicSlice_eq_extractStridedSlice S1 x st (fun _ => i.val) h hs (fun a => by
    match a with
    | ⟨0, _⟩ => exact hst)]
  unfold extractStridedSlice
  refine congrArg x (funext fun a => Fin.ext ?_)
  match a with
  | ⟨0, _⟩ => rfl

/-- An index that is not negative is itself. -/
theorem wrap_at (w b : IVec S_ 32) (i : ℕ) (hi : i < 2 ^ 31) (hw : w ix0 = BitVec.ofNat 32 i) :
    select (cmpi .slt w (constantI S_ 32 0#32)) (addi w b) w ix0 = BitVec.ofNat 32 i := by
  show Scalar.select (IntOp.cmpi .slt (w ix0) (BitVec.ofNat 32 0)) _ (w ix0) = _
  rw [hw, cmpi_slt_small hi (by norm_num)]
  rfl

theorem select_bool {α : Type} (p : Prop) [Decidable p] (a b : α) : Scalar.select (BitVec.ofBool (decide p)) a b = if p then a else b := by
  by_cases h : p <;> simp [Scalar.select, h]

theorem not_bool (p : Prop) [Decidable p] : ~~~ (BitVec.ofBool (decide p)) = BitVec.ofBool (decide (¬ p)) := by
  by_cases h : p <;> simp [h]

theorem add_word (a b : ℕ) : IntOp.addi (BitVec.ofNat 32 a) (BitVec.ofNat 32 b) = BitVec.ofNat 32 (a + b) :=
  (BitVec.ofNat_add a b).symm

theorem min_word {a b : ℕ} (ha : a < 2 ^ 31) (hb : b < 2 ^ 31) :
    IntOp.minsi (BitVec.ofNat 32 a) (BitVec.ofNat 32 b) = BitVec.ofNat 32 (min a b) := by
  unfold IntOp.minsi
  have : (BitVec.ofNat 32 a).slt (BitVec.ofNat 32 b) = decide (a < b) := by
    unfold BitVec.slt
    rw [toInt_small ha, toInt_small hb]
    exact decide_eq_decide.2 Int.ofNat_lt
  rw [this]
  by_cases h : a < b
  · simp [h, min_eq_left h.le]
  · simp [h, min_eq_right (not_lt.1 h)]

/-! ## The invariant -/

/-- The contents before trip `k` of the loop over the boxes `s`. -/
structure Inv (s : ℕ → Fin 4 → EReal) (k : ℕ) (V : Valuation τ sig (Elt Ideal)) : Prop where
  x0 : ∀ n : Fin 6000, V (Proc.devRef .tc main_v135_0) (ix1 n) = s n.val 0
  x1 : ∀ n : Fin 6000, V (Proc.devRef .tc main_v135_1) (ix1 n) = s n.val 1
  x2 : ∀ n : Fin 6000, V (Proc.devRef .tc main_v135_2) (ix1 n) = s n.val 2
  x3 : ∀ n : Fin 6000, V (Proc.devRef .tc main_v135_3) (ix1 n) = s n.val 3
  ar : ∀ n : Fin 6000, V (Proc.devRef .tc main_v135_4) (ix1 n) = area (s n.val)
  pl : ∀ n : Fin 6000, V (Proc.devRef .tc main_v135_5) (ix1 n) = BitVec.ofNat 32 n.val
  od : ∀ n : Fin 6000, V (Proc.devRef .tc main_v135_6) (ix1 n) = BitVec.ofNat 32 n.val
  no : V (Proc.devRef .tc main_v135_8) ix0 = BitVec.ofNat 32 k
  dr : ∀ j : Fin 6000, V (Proc.devRef .tc main_v135_9) (ix1 j)
    = BitVec.ofBool (decide (∃ i < k, kept s i ∧ cnt s i < 300 ∧ i < j.val ∧ hit (s i) (s j.val)))
  tb : ∀ q : Fin 300, ∀ i < k, kept s i → cnt s i = q.val → V (Proc.devRef .tc main_v135_10) (ix1 q) = BitVec.ofNat 32 i
  ct : V (Proc.devRef .tc main_v135_11) ix0 = BitVec.ofNat 32 (min (cnt s k) 300)

variable {s : ℕ → Fin 4 → EReal} {k : ℕ} {V : Valuation τ sig (Elt Ideal)}

/-- Entry `k` of a carried array. -/
theorem read_at {α : Type} (hV : Inv s k V) (hk : k < 6000) (x : S6000.Idx → α) :
    shapeCast S_ (Host.dynamicSlice S1 x (fun k => (((![select (cmpi .slt (V (Proc.devRef .tc main_v135_8)) (constantI S_ 32 0#32)) (addi (id (V (Proc.devRef .tc main_v135_8))) (constantI S_ 32 6000#32)) (V (Proc.devRef .tc main_v135_8))] : Fin 1 → (⟨S_, .i32⟩ : BufTy).Contents (Elt Ideal))) k (Shape.Idx.first h_S_)).toInt) sliceFits_S6000_S1) shapeCasts_S1_S_ ix0
      = x (ix1 ⟨k, hk⟩) := by
  refine slice_at (N := 6000) x _ _ _ ⟨k, hk⟩ ?_
  have h31 : k < 2 ^ 31 := by omega
  have := wrap_at (V (Proc.devRef .tc main_v135_8)) (constantI S_ 32 6000#32) k h31 hV.no
  rw [← toInt_small h31, ← this]
  exact congrArg (fun i => BitVec.toInt (select _ _ _ i)) (eq_ix0 _)

/-- The box is taken: it is kept, and the table is not full. -/
theorem take_at (hV : Inv s k V) (hk : k < 6000) :
    res_main_while0b_v157 V ix0 = BitVec.ofBool (decide (kept s k ∧ cnt s k < 300)) := by
  have e : res_main_while0b_v157 V ix0 = IntOp.andi (~~~ (V (Proc.devRef .tc main_v135_9) (ix1 (⟨k, hk⟩ : Fin 6000))))
      (IntOp.cmpi .slt (V (Proc.devRef .tc main_v135_11) ix0) (BitVec.ofNat 32 300)) := by
    rw [← read_at hV hk (V (Proc.devRef .tc main_v135_9))]
    rfl
  rw [e, hV.dr, hV.ct, cmpi_slt_small (by omega) (by norm_num), not_bool, andi_ofBool, ← Bool.decide_and]
  refine congrArg BitVec.ofBool (decide_eq_decide.2 ?_)
  rw [kept_iff]
  constructor
  · rintro ⟨h, hc⟩
    have hc' : cnt s k < 300 := by omega
    refine ⟨⟨hk, fun i hi hki hh => h ⟨i, hi, hki, ?_, hi, hh⟩⟩, hc'⟩
    have := cnt_mono s hi.le
    omega
  · rintro ⟨⟨-, h⟩, hc⟩
    exact ⟨fun ⟨i, hi, hki, _, _, hh⟩ => h i hi hki hh, by omega⟩

theorem inter_at (hV : Inv s k V) (hk : k < 6000) (j : Fin 6000) :
    res_main_while0b_v196 V (ix1 j) = inter (s k) (s j.val) := by
  have e : ∀ x : S6000.Idx → EReal, broadcastInDim S6000 ![] bcast_S_S6000 (shapeCast S_ (Host.dynamicSlice S1 x (fun k => (((![select (cmpi .slt (V (Proc.devRef .tc main_v135_8)) (constantI S_ 32 0#32)) (addi (id (V (Proc.devRef .tc main_v135_8))) (constantI S_ 32 6000#32)) (V (Proc.devRef .tc main_v135_8))] : Fin 1 → (⟨S_, .i32⟩ : BufTy).Contents (Elt Ideal))) k (Shape.Idx.first h_S_)).toInt) sliceFits_S6000_S1) shapeCasts_S1_S_) (ix1 j)
      = x (ix1 ⟨k, hk⟩) := fun x => (Routing.bc0 _ _ _).trans (read_at hV hk x)
  have h0 := (e (V (Proc.devRef .tc main_v135_0))).trans (hV.x0 ⟨k, hk⟩)
  have h1 := (e (V (Proc.devRef .tc main_v135_1))).trans (hV.x1 ⟨k, hk⟩)
  have h2 := (e (V (Proc.devRef .tc main_v135_2))).trans (hV.x2 ⟨k, hk⟩)
  have h3 := (e (V (Proc.devRef .tc main_v135_3))).trans (hV.x3 ⟨k, hk⟩)
  unfold inter
  rw [← hV.x0 j, ← hV.x1 j, ← hV.x2 j, ← hV.x3 j, ← h0, ← h1, ← h2, ← h3,
    ← (show (Scalar.ofBits (F := Ideal) .f32 0x00000000#32 : EReal) = 0 from Ideal.ofBits_zero .f32)]
  rfl

/-- The table's place of the next box. -/
theorem slot_at (hV : Inv s k V) :
    select (cmpi .slt (res_main_while0b_v217 V) (constantI S_ 32 0#32)) (addi (res_main_while0b_v217 V) (constantI S_ 32 300#32)) (res_main_while0b_v217 V) ix0
      = BitVec.ofNat 32 (min (cnt s k) 299) := by
  refine wrap_at _ _ _ (by omega) ?_
  show IntOp.minsi (V (Proc.devRef .tc main_v135_11) ix0) (BitVec.ofNat 32 299) = _
  rw [hV.ct, min_word (by omega) (by norm_num)]
  exact congrArg _ (by omega)

theorem step_dr (hV : Inv s k V) (hk : k < 6000) (j : Fin 6000) :
    step_main_v135_9 V (ix1 j) = BitVec.ofBool (decide (∃ i < k + 1, kept s i ∧ cnt s i < 300 ∧ i < j.val ∧ hit (s i) (s j.val))) := by
  have hb : broadcastInDim S6000 ![] bcast_S_S6000 (res_main_while0b_v157 V) (ix1 j) = BitVec.ofBool (decide (kept s k ∧ cnt s k < 300)) :=
    (Routing.bc0 _ _ _).trans (take_at hV hk)
  have ha : broadcastInDim S6000 ![] bcast_S_S6000 (shapeCast S_ (Host.dynamicSlice S1 (V (Proc.devRef .tc main_v135_4)) (fun k => (((![select (cmpi .slt (V (Proc.devRef .tc main_v135_8)) (constantI S_ 32 0#32)) (addi (id (V (Proc.devRef .tc main_v135_8))) (constantI S_ 32 6000#32)) (V (Proc.devRef .tc main_v135_8))] : Fin 1 → (⟨S_, .i32⟩ : BufTy).Contents (Elt Ideal))) k (Shape.Idx.first h_S_)).toInt) sliceFits_S6000_S1) shapeCasts_S1_S_) (ix1 j)
      = area (s k) := (Routing.bc0 _ _ _).trans ((read_at hV hk _).trans (hV.ar ⟨k, hk⟩))
  have hc : IntOp.cmpi .sgt (V (Proc.devRef .tc main_v135_5) (ix1 j)) (broadcastInDim S6000 ![] bcast_S_S6000 (id (V (Proc.devRef .tc main_v135_8))) (ix1 j))
      = BitVec.ofBool (decide (k < j.val)) := by
    rw [hV.pl, show broadcastInDim S6000 ![] bcast_S_S6000 (id (V (Proc.devRef .tc main_v135_8))) (ix1 j) = BitVec.ofNat 32 k from
      (Routing.bc0 _ _ _).trans hV.no]
    have := j.isLt
    exact cmpi_slt_small (by omega) (by omega)
  have e : step_main_v135_9 V (ix1 j)
      = Scalar.select (BitVec.ofBool (decide (kept s k ∧ cnt s k < 300)))
          (IntOp.ori (V (Proc.devRef .tc main_v135_9) (ix1 j)) (IntOp.andi (BitVec.ofBool (decide (hit (s k) (s j.val)))) (BitVec.ofBool (decide (k < j.val)))))
          (V (Proc.devRef .tc main_v135_9) (ix1 j)) := by
    have hh : BitVec.ofBool (decide (hit (s k) (s j.val))) = FloatOps.cmpf (F := Ideal) (φ := .f32) .ogt
        (Ideal.div (inter (s k) (s j.val)) (area (s k) + area (s j.val) - inter (s k) (s j.val) + eps)) thr :=
      congrArg BitVec.ofBool (decide_eq_decide.2 Iff.rfl)
    rw [hh, ← hb, ← hc, ← ha, ← hV.ar j, ← inter_at hV hk j]
    rfl
  rw [e, hV.dr, andi_ofBool, ori_ofBool, ← Bool.decide_and, ← Bool.decide_or, select_bool]
  split
  · next ht =>
    refine congrArg BitVec.ofBool (decide_eq_decide.2 ?_)
    constructor
    · rintro (⟨i, hi, h⟩ | ⟨hh, hj⟩)
      · exact ⟨i, by omega, h⟩
      · exact ⟨k, by omega, ht.1, ht.2, hj, hh⟩
    · rintro ⟨i, hi, h1, h2, h3, h4⟩
      rcases Nat.lt_succ_iff_lt_or_eq.1 hi with hi | rfl
      · exact Or.inl ⟨i, hi, h1, h2, h3, h4⟩
      · exact Or.inr ⟨h4, h3⟩
  · next ht =>
    refine congrArg BitVec.ofBool (decide_eq_decide.2 ?_)
    constructor
    · rintro ⟨i, hi, h⟩
      exact ⟨i, by omega, h⟩
    · rintro ⟨i, hi, h1, h2, h3⟩
      rcases Nat.lt_succ_iff_lt_or_eq.1 hi with hi | rfl
      · exact ⟨i, hi, h1, h2, h3⟩
      · exact absurd ⟨h1, h2⟩ ht

theorem step_tb (hV : Inv s k V) (hk : k < 6000) (q : Fin 300) :
    step_main_v135_10 V (ix1 q) = if q.val = min (cnt s k) 299 ∧ kept s k ∧ cnt s k < 300 then BitVec.ofNat 32 k
      else V (Proc.devRef .tc main_v135_10) (ix1 q) := by
  have hl : min (cnt s k) 299 < 300 := by omega
  have hs := slot_at hV
  have h31 : min (cnt s k) 299 < 2 ^ 31 := by omega
  have hd := slice_at (N := 300) (V (Proc.devRef .tc main_v135_10)) (fun k => (((![select (cmpi .slt (res_main_while0b_v217 V) (constantI S_ 32 0#32)) (addi (res_main_while0b_v217 V) (constantI S_ 32 300#32)) (res_main_while0b_v217 V)] : Fin 1 → (⟨S_, .i32⟩ : BufTy).Contents (Elt Ideal))) k (Shape.Idx.first h_S_)).toInt) sliceFits_S300_S1 shapeCasts_S1_S_ ⟨min (cnt s k) 299, hl⟩ (by
    rw [← toInt_small h31, ← hs]
    exact congrArg (fun i => BitVec.toInt (select _ _ _ i)) (eq_ix0 _))
  refine (Routing.scatter_one scatter_S300_S1_S__n_0_0_0 rfl rfl _ _ _ ⟨min (cnt s k) 299, hl⟩ h31
    ((Routing.bc0 _ _ _).trans hs) q).trans ?_
  by_cases hq : q = ⟨min (cnt s k) 299, hl⟩
  · rw [if_pos hq]
    refine (congr (congrArg₂ Scalar.select (take_at hV hk) ((read_at hV hk _).trans (hV.od ⟨k, hk⟩))) hd).trans ?_
    rw [select_bool, hq]
    by_cases ht : kept s k ∧ cnt s k < 300
    · rw [if_pos ht, if_pos ⟨rfl, ht⟩]
    · rw [if_neg ht, if_neg (fun h => ht h.2)]
  · rw [if_neg hq, if_neg (fun h => hq (Fin.ext h.1))]
    rfl

theorem step_ct (hV : Inv s k V) (hk : k < 6000) :
    step_main_v135_11 V ix0 = BitVec.ofNat 32 (min (cnt s (k + 1)) 300) := by
  have e : step_main_v135_11 V ix0 = IntOp.addi (V (Proc.devRef .tc main_v135_11) ix0) ((res_main_while0b_v157 V ix0).setWidth 32) := rfl
  rw [e, take_at hV hk, hV.ct, cnt_succ]
  by_cases hkp : kept s k <;> by_cases hc : cnt s k < 300 <;> simp only [hkp, hc, and_true, true_and, and_self, decide_true, decide_false, false_and, and_false, if_true, if_false]
  · rw [show (BitVec.ofBool true).setWidth 32 = BitVec.ofNat 32 1 from rfl, add_word]
    exact congrArg _ (by omega)
  all_goals
    rw [show (BitVec.ofBool false).setWidth 32 = BitVec.ofNat 32 0 from rfl, add_word]
    exact congrArg _ (by omega)

/-- One trip. -/
theorem inv_step (hV : Inv s k V) (hk : k < 6000) : Inv s (k + 1) (STEP V) where
  x0 n := by rw [STEP_main_v135_0]; exact hV.x0 n
  x1 n := by rw [STEP_main_v135_1]; exact hV.x1 n
  x2 n := by rw [STEP_main_v135_2]; exact hV.x2 n
  x3 n := by rw [STEP_main_v135_3]; exact hV.x3 n
  ar n := by rw [STEP_main_v135_4]; exact hV.ar n
  pl n := by rw [STEP_main_v135_5]; exact hV.pl n
  od n := by rw [STEP_main_v135_6]; exact hV.od n
  no := by
    rw [STEP_main_v135_8]
    have e : step_main_v135_8 V ix0 = IntOp.addi (V (Proc.devRef .tc main_v135_8) ix0) (BitVec.ofNat 32 1) := rfl
    rw [e, hV.no, add_word]
  dr j := by rw [STEP_main_v135_9]; exact step_dr hV hk j
  tb q i hi hki hc := by
    rw [STEP_main_v135_10, step_tb hV hk q]
    have hq := q.isLt
    rcases Nat.lt_succ_iff_lt_or_eq.1 hi with hi | rfl
    · rw [if_neg, hV.tb q i hi hki hc]
      rintro ⟨h, _, h'⟩
      have := cnt_lt_of_kept s hi hki
      omega
    · rw [if_pos ⟨by omega, hki, by omega⟩]
  ct := by rw [STEP_main_v135_11]; exact step_ct hV hk

theorem inv_iterate (h0 : Inv s 0 V) : ∀ k, k ≤ 6000 → Inv s k (STEP^[k] V)
  | 0, _ => h0
  | k + 1, hk => by
    rw [Function.iterate_succ_apply']
    exact inv_step (inv_iterate h0 k (by omega)) (by omega)

end Cert.Proof.NmsRef

end
-- ==== Proof.RSort.lean ====
/-
  The reference's two sorts read at a position: the first 6000 of the scores by the larger first, and the order of the
  same scores negated, which is the order they are in.
-/
module

public import proofs.«01_k».proof.Proof.Order
public import proofs.«01_k».proof.Proof.RLoop
public import Idealize.ShloMosaic.Lib.SortFacts

@[expose] public section

set_option maxRecDepth 16384

noncomputable section

namespace Cert.Proof.NmsRef

open Idealize.ShloMosaic Idealize.ShloMosaic.TcCoe Idealize.ShloMosaic.Tactic Idealize.ShloMosaic.StableHlo
open Idealize.SL.Sem
open Cert.ReferenceIdeal Cert.ReferenceIdeal.Gen Cert.ReferenceIdeal.Value
open Cert.Proof.Nms (gtB ord ord_id ord_antitone)

theorem along_ix1 {N : ℕ} (j : (⟨1, ![N]⟩ : Shape).Idx) (k : Fin N) : j.along (0 : Fin 1) k = ix1 k := by
  rw [Shape.Idx.along_rank1]
  funext a
  have : a = 0 := Subsingleton.elim _ _
  subst this
  exact Fin.ext rfl

/-- A sort of two arrays read at a position, where its comparison is of `f`, the larger first. -/
theorem sort2_at {N : ℕ} (cmp : EReal × BitVec 32 → EReal × BitVec 32 → BitVec 1) (x : (⟨1, ![N]⟩ : Shape).Idx → EReal)
    (y : (⟨1, ![N]⟩ : Shape).Idx → BitVec 32) (f : Fin N → EReal)
    (hf : ∀ k k', (cmp (x (ix1 k), y (ix1 k)) (x (ix1 k'), y (ix1 k')) == 1#1) = gtB f k k') (k : Fin N) :
    (Host.sort2 ⟨1, ![N]⟩ 0 cmp x y).1 (ix1 k) = x (ix1 (ord f k)) ∧ (Host.sort2 ⟨1, ![N]⟩ 0 cmp x y).2 (ix1 k) = y (ix1 (ord f k)) := by
  have hd : 0 < (⟨1, ![N]⟩ : Shape).rank := Nat.one_pos
  have e : ∀ j : (⟨1, ![N]⟩ : Shape).Idx, sortedFrom (fun k k' => cmp (x (j.along (0 : Fin 1) k), y (j.along (0 : Fin 1) k)) (x (j.along (0 : Fin 1) k'), y (j.along (0 : Fin 1) k')) == 1#1) k
      = ord f k := by
    intro j
    unfold ord
    refine congrArg (fun b => sortedFrom b k) (funext fun a => funext fun b => ?_)
    exact (congrArg₂ (fun p q => cmp (x p, y p) (x q, y q) == 1#1) (along_ix1 j a) (along_ix1 j b)).trans (hf a b)
  unfold Host.sort2
  rw [dif_pos hd]
  constructor
  · refine congrArg x ?_
    rw [← e (ix1 k)]
    exact along_ix1 _ _
  · refine congrArg y ?_
    rw [← e (ix1 k)]
    exact along_ix1 _ _

/-- The place, among the 22500, of the score at position `k`. -/
def place (x : S22500.Idx → EReal) (k : Fin 6000) : Fin 22500 := ord (fun i => x (ix1 i)) (k.castLE (by norm_num))

theorem slice_ix1 {α : Type} (x : S22500.Idx → α) (k : Fin 6000) :
    extractStridedSlice S6000 (fun _ => 0) x sliceFits_S22500_S6000 (ix1 k) = x (ix1 (k.castLE (by norm_num))) := by
  unfold extractStridedSlice
  refine congrArg x (funext fun a => Fin.ext ?_)
  match a with
  | ⟨0, _⟩ => exact Nat.zero_add _

theorem gt_word (a b : EReal) : (FloatOps.cmpfTotal (F := Ideal) (φ := .f32) .gt a b == 1#1) = decide (b < a) := by
  show (BitVec.ofBool (decide (b < a)) == 1#1) = _
  by_cases h : b < a <;> simp [h]

theorem top_at (x : S22500.Idx → EReal) (k : Fin 6000) :
    (Host.topK S6000 0 (FloatOps.cmpfTotal (F := Ideal) (φ := .f32) .gt) x sliceFits_S22500_S6000).1 (ix1 k) = x (ix1 (place x k))
    ∧ (Host.topK S6000 0 (FloatOps.cmpfTotal (F := Ideal) (φ := .f32) .gt) x sliceFits_S22500_S6000).2 (ix1 k) = BitVec.ofNat 32 (place x k).val := by
  have h := sort2_at (N := 22500) (fun l r => FloatOps.cmpfTotal (F := Ideal) (φ := .f32) .gt l.1 r.1) x
    (fun i => if hd : 0 < S22500.rank then iotaInDim S22500 32 ⟨0, hd⟩ i else 0#32) (fun i => x (ix1 i))
    (fun a b => gt_word _ _) (k.castLE (by norm_num))
  exact ⟨(slice_ix1 _ k).trans h.1, (slice_ix1 _ k).trans h.2⟩

theorem lt_word (a b : EReal) (u v : BitVec 32) : (comparator_f32_i32_d0 (F := Ideal) (a, u) (b, v) == 1#1) = decide (a < b) := by
  have z : ∀ a : EReal, Scalar.select (FloatOps.cmpf (F := Ideal) (φ := .f32) .une a a) (FloatOps.ofBits (F := Ideal) .f32 0x7FC00000#32)
      (Scalar.select (FloatOps.cmpf (F := Ideal) (φ := .f32) .oeq a (FloatOps.ofBits (F := Ideal) .f32 0x00000000#32)) (FloatOps.ofBits (F := Ideal) .f32 0x00000000#32) a) = a := by
    intro a
    have h1 : FloatOps.cmpf (F := Ideal) (φ := .f32) .une a a = BitVec.ofBool (decide (a ≠ a)) := rfl
    have h2 : FloatOps.cmpf (F := Ideal) (φ := .f32) .oeq a (FloatOps.ofBits (F := Ideal) .f32 0x00000000#32)
      = BitVec.ofBool (decide (a = FloatOps.ofBits (F := Ideal) .f32 0x00000000#32)) := rfl
    rw [h1, h2, select_bool, select_bool, if_neg (by simp)]
    split
    · next h => exact h.symm
    · rfl
  have e : comparator_f32_i32_d0 (F := Ideal) (a, u) (b, v) = BitVec.ofBool (decide (a < b)) := by
    unfold comparator_f32_i32_d0
    refine (congrArg₂ (FloatOps.cmpfTotal (F := Ideal) (φ := .f32) .lt) (z a) (z b)).trans rfl
  rw [e]
  by_cases h : a < b <;> simp [h]

/-- The order of the negated scores, of scores that fall. -/
theorem arg_at (v : S6000.Idx → EReal) (hv : ∀ i j : Fin 6000, i ≤ j → v (ix1 j) ≤ v (ix1 i)) (k : Fin 6000) :
    (Host.sort2 S6000 0 (comparator_f32_i32_d0 (F := Ideal)) (Host.negf (F := Ideal) (φ := .f32) v) (iotaInDim S6000 32 0)).2 (ix1 k) = BitVec.ofNat 32 k.val := by
  have h := (sort2_at (N := 6000) (comparator_f32_i32_d0 (F := Ideal)) (Host.negf (F := Ideal) (φ := .f32) v) (iotaInDim S6000 32 0) (fun i => v (ix1 i))
    (fun a b => (lt_word _ _ _ _).trans (decide_eq_decide.2 EReal.neg_lt_neg_iff)) k).2
  rw [ord_id _ hv] at h
  exact h

end Cert.Proof.NmsRef

end
-- ==== Proof.RPre.lean ====
/-
  What the reference's loop starts from: the boxes in the order of their scores, their areas, their places, nothing
  dropped and an empty table.
-/
module

public import proofs.«01_k».proof.Proof.RSort
public import Idealize.ShloMosaic.Lib.StableHlo.RunRead

@[expose] public section

set_option maxRecDepth 16384

noncomputable section

namespace Cert.Proof.NmsRef

open Idealize.ShloMosaic Idealize.ShloMosaic.TcCoe Idealize.ShloMosaic.Tactic Idealize.ShloMosaic.StableHlo
open Idealize.SL.Sem
open Cert.ReferenceIdeal Cert.ReferenceIdeal.Gen Cert.ReferenceIdeal.Value
open Cert.Proof.Nms (gtB ord ord_id ord_antitone kept cnt hit area inter)
open scoped Classical

/-! ## The operations' values -/

/-- The first 6000 scores, and their places. -/
abbrev topV (x : S22500.Idx → EReal) : S6000.Idx → EReal := (Host.topK S6000 0 (FloatOps.cmpfTotal (F := Ideal) (φ := .f32) .gt) x sliceFits_S22500_S6000).1
abbrev topI (x : S22500.Idx → EReal) : S6000.Idx → BitVec 32 := (Host.topK S6000 0 (FloatOps.cmpfTotal (F := Ideal) (φ := .f32) .gt) x sliceFits_S22500_S6000).2

/-- The order of the first 6000 scores, negated. -/
abbrev ordI (x : S6000.Idx → EReal) : S6000.Idx → BitVec 32 := (Host.sort2 S6000 0 (comparator_f32_i32_d0 (F := Ideal)) x (iotaInDim S6000 32 0)).2

/-- A column of indices, a negative one counted from the end. -/
abbrev wrapCol (w : S6000.Idx → BitVec 32) (n : BitVec 32) : S6000x1.Idx → BitVec 32 :=
  broadcastInDim S6000x1 ![0] bcast_S6000_S6000x1_0
    (select (cmpi .slt w (broadcastInDim S6000 ![] bcast_S_S6000 (constantI S_ 32 0#32))) (addi w (broadcastInDim S6000 ![] bcast_S_S6000 (constantI S_ 32 n))) w)

theorem wrapCol_at (w : S6000.Idx → BitVec 32) (n : BitVec 32) (k : Fin 6000) (i : ℕ) (hi : i < 2 ^ 31) (hw : w (ix1 k) = BitVec.ofNat 32 i) :
    wrapCol w n (ix2 k (0 : Fin 1)) = BitVec.ofNat 32 i := by
  refine (Routing.bcCol (n := 6000) _ _ k).trans ?_
  show Scalar.select (IntOp.cmpi .slt (w (ix1 k)) (BitVec.ofNat 32 0)) _ (w (ix1 k)) = _
  rw [hw, Nms.cmpi_slt_small hi (by norm_num)]
  rfl

variable (X : Valuation τ sig (Elt Ideal))

theorem read107 : after hostOps0_8 X (Proc.devRef .tc main_v107)
    = (Host.gather gather_S22500x4_S6000x1_S6000x4_1_0_n_n_0_1_14 (after hostOps0_8 X (Proc.devRef .tc main_v81) : S22500x4.Idx → EReal)
        (wrapCol (topI (after hostOps0_8 X (Proc.devRef .tc main_v100))) 22500#32) : S6000x4.Idx → EReal) := by
  after_reads_simp

theorem read108 : after hostOps0_8 X (Proc.devRef .tc main_v108)
    = (Host.negf (F := Ideal) (φ := .f32) (topV (after hostOps0_8 X (Proc.devRef .tc main_v100))) : S6000.Idx → EReal) := by
  after_reads_simp

/-- The boxes before the loop, the order applied. -/
abbrev box (X : Valuation τ sig (Elt Ideal)) : S6000x4.Idx → EReal :=
  Host.gather gather_S6000x4_S6000x1_S6000x4_1_0_n_n_0_1_14 (X (Proc.devRef .tc main_v107) : S6000x4.Idx → EReal) (wrapCol (ordI (X (Proc.devRef .tc main_v108))) 6000#32)

abbrev col0 (b : S6000x4.Idx → EReal) : S6000.Idx → EReal := shapeCast S6000 (extractStridedSlice S6000x1 ![0, 0] b slices_S6000x4_S6000x1_0_0) shapeCasts_S6000x1_S6000
abbrev col1 (b : S6000x4.Idx → EReal) : S6000.Idx → EReal := shapeCast S6000 (extractStridedSlice S6000x1 ![0, 1] b slices_S6000x4_S6000x1_0_1) shapeCasts_S6000x1_S6000
abbrev col2 (b : S6000x4.Idx → EReal) : S6000.Idx → EReal := shapeCast S6000 (extractStridedSlice S6000x1 ![0, 2] b slices_S6000x4_S6000x1_0_2) shapeCasts_S6000x1_S6000
abbrev col3 (b : S6000x4.Idx → EReal) : S6000.Idx → EReal := shapeCast S6000 (extractStridedSlice S6000x1 ![0, 3] b slices_S6000x4_S6000x1_0_3) shapeCasts_S6000x1_S6000

/-- The contents when the loop begins, of those before the second sort. -/
abbrev start (X : Valuation τ sig (Elt Ideal)) : Valuation τ sig (Elt Ideal) := after hostOps0_10 (after hostOps0_9 X)

theorem start107 : start X (Proc.devRef .tc main_v107) = X (Proc.devRef .tc main_v107) := by
  after_reads_simp

theorem start0 : start X (Proc.devRef .tc main_v135_0) = col0 (box X) := by
  after_reads_simp
  rfl
theorem start1 : start X (Proc.devRef .tc main_v135_1) = col1 (box X) := by
  after_reads_simp
  rfl
theorem start2 : start X (Proc.devRef .tc main_v135_2) = col2 (box X) := by
  after_reads_simp
  rfl
theorem start3 : start X (Proc.devRef .tc main_v135_3) = col3 (box X) := by
  after_reads_simp
  rfl
theorem start4 : start X (Proc.devRef .tc main_v135_4)
    = (mulf (F := Ideal) (φ := .f32) (maximumf (subf (col2 (box X)) (col0 (box X))) (broadcastInDim S6000 ![] bcast_S_S6000 (constant (F := Ideal) S_ .f32 0x00000000#32)))
        (maximumf (subf (col3 (box X)) (col1 (box X))) (broadcastInDim S6000 ![] bcast_S_S6000 (constant (F := Ideal) S_ .f32 0x00000000#32))) : S6000.Idx → EReal) := by
  after_reads_simp
  rfl
theorem start5 : start X (Proc.devRef .tc main_v135_5) = iotaInDim S6000 32 0 := by
  after_reads_simp
  rfl
theorem start6 : start X (Proc.devRef .tc main_v135_6) = ordI (X (Proc.devRef .tc main_v108)) := by
  after_reads_simp
  rfl
theorem start8 : start X (Proc.devRef .tc main_v135_8) = constantI S_ 32 0#32 := by
  after_reads_simp
  rfl
theorem start9 : start X (Proc.devRef .tc main_v135_9) = broadcastInDim S6000 ![] bcast_S_S6000 (constantI S_ 1 0#1) := by
  after_reads_simp
  rfl
theorem start11 : start X (Proc.devRef .tc main_v135_11) = constantI S_ 32 0#32 := by
  after_reads_simp
  rfl

/-! ## Read at an entry -/

theorem col_at (b : S6000x4.Idx → EReal) (c : Fin 4) (h : S6000x4.Slices ![0, c.val] S6000x1) (h' : S6000x1.ShapeCasts S6000) (k : Fin 6000) :
    shapeCast S6000 (extractStridedSlice S6000x1 ![0, c.val] b h) h' (ix1 k) = b (ix2 k c) := by
  refine (Routing.cast21 (a := 6000) (b := 1) (n := 6000) _ h' k 0 k (by simp)).trans ?_
  unfold extractStridedSlice
  refine congrArg b (funext fun a => Fin.ext ?_)
  match a with
  | ⟨0, _⟩ => exact Nat.zero_add _
  | ⟨1, _⟩ => exact Nat.add_zero _

/-- The boxes in the order of their scores. -/
theorem at107 (k : Fin 6000) (c : Fin 4) : (after hostOps0_8 X (Proc.devRef .tc main_v107) : S6000x4.Idx → EReal) (ix2 k c)
    = (after hostOps0_8 X (Proc.devRef .tc main_v81) : S22500x4.Idx → EReal) (ix2 (place (after hostOps0_8 X (Proc.devRef .tc main_v100)) k) c) := by
  rw [read107]
  have hp := (place (after hostOps0_8 X (Proc.devRef .tc main_v100)) k).isLt
  exact Routing.gather_row (nb := 22500) (B := 4) (n := 6000) gather_S22500x4_S6000x1_S6000x4_1_0_n_n_0_1_14 rfl rfl rfl rfl rfl _ _ k c _
    (wrapCol_at _ _ k _ (by omega) (top_at _ k).2) (by norm_num)

theorem order_at (hX : ∃ x : S22500.Idx → EReal, X (Proc.devRef .tc main_v108) = (Host.negf (F := Ideal) (φ := .f32) (topV x) : S6000.Idx → EReal)) (k : Fin 6000) :
    ordI (X (Proc.devRef .tc main_v108)) (ix1 k) = BitVec.ofNat 32 k.val := by
  obtain ⟨x, hx⟩ := hX
  rw [hx]
  refine arg_at (topV x) (fun i j hij => ?_) k
  refine le_trans (le_of_eq (top_at x j).1) (le_trans ?_ (le_of_eq (top_at x i).1.symm))
  exact ord_antitone (fun i => x (ix1 i)) (i := i.castLE (by norm_num)) (j := j.castLE (by norm_num)) hij

theorem box_at (hX : ∃ x : S22500.Idx → EReal, X (Proc.devRef .tc main_v108) = (Host.negf (F := Ideal) (φ := .f32) (topV x) : S6000.Idx → EReal)) (k : Fin 6000) (c : Fin 4) :
    box X (ix2 k c) = (X (Proc.devRef .tc main_v107) : S6000x4.Idx → EReal) (ix2 k c) := by
  have hk := k.isLt
  exact Routing.gather_row (nb := 6000) (B := 4) (n := 6000) gather_S6000x4_S6000x1_S6000x4_1_0_n_n_0_1_14 rfl rfl rfl rfl rfl _ _ k c k
    (wrapCol_at _ _ k _ (by omega) (order_at X hX k)) (by norm_num)

/-- The loop's contents at its start. -/
theorem inv_start (s : ℕ → Fin 4 → EReal)
    (hX : ∃ x : S22500.Idx → EReal, X (Proc.devRef .tc main_v108) = (Host.negf (F := Ideal) (φ := .f32) (topV x) : S6000.Idx → EReal))
    (hs : ∀ (k : Fin 6000) (c : Fin 4), (X (Proc.devRef .tc main_v107) : S6000x4.Idx → EReal) (ix2 k c) = s k.val c) : Inv s 0 (start X) := by
  have b : ∀ (k : Fin 6000) (c : Fin 4), box X (ix2 k c) = s k.val c := fun k c => (box_at X hX k c).trans (hs k c)
  have c0 : ∀ k : Fin 6000, col0 (box X) (ix1 k) = s k.val 0 := fun k => (col_at _ 0 _ _ k).trans (b k 0)
  have c1 : ∀ k : Fin 6000, col1 (box X) (ix1 k) = s k.val 1 := fun k => (col_at _ 1 _ _ k).trans (b k 1)
  have c2 : ∀ k : Fin 6000, col2 (box X) (ix1 k) = s k.val 2 := fun k => (col_at _ 2 _ _ k).trans (b k 2)
  have c3 : ∀ k : Fin 6000, col3 (box X) (ix1 k) = s k.val 3 := fun k => (col_at _ 3 _ _ k).trans (b k 3)
  constructor
  · intro n; rw [start0]; exact c0 n
  · intro n; rw [start1]; exact c1 n
  · intro n; rw [start2]; exact c2 n
  · intro n; rw [start3]; exact c3 n
  · intro n
    rw [start4]
    unfold area
    rw [← c0 n, ← c1 n, ← c2 n, ← c3 n, ← (show (Scalar.ofBits (F := Ideal) .f32 0x00000000#32 : EReal) = 0 from Ideal.ofBits_zero .f32)]
    rfl
  · intro n; rw [start5]; rfl
  · intro n; rw [start6]; exact order_at X hX n
  · rw [start8]; rfl
  · intro j
    rw [start9]
    have : ¬ ∃ i < 0, kept s i ∧ cnt s i < 300 ∧ i < j.val ∧ hit (s i) (s j.val) := fun ⟨i, hi, _⟩ => by omega
    rw [decide_eq_false this]
    rfl
  · intro q i hi; omega
  · rw [start11, Nms.cnt_zero]; rfl

end Cert.Proof.NmsRef

end
-- ==== Proof.RFinal.lean ====
/-
  The reference's result: the boxes that its table names, read back, and zeros past the number of boxes kept.
-/
module

public import proofs.«01_k».proof.Proof.RPre

@[expose] public section

set_option maxRecDepth 16384

noncomputable section

namespace Cert.Proof.NmsRef

open Idealize.ShloMosaic Idealize.ShloMosaic.TcCoe Idealize.ShloMosaic.Tactic Idealize.ShloMosaic.StableHlo
open Idealize.SL.Sem
open Cert.ReferenceIdeal Cert.ReferenceIdeal.Gen Cert.ReferenceIdeal.Value
open Cert.Proof.Nms (kept cnt cnt_mono cnt_6000 exists_kept pick surv pick_eq pick_none)

/-- Which of the 300 rows hold a box. -/
abbrev full (n : S_.Idx → BitVec 32) : S300x4.Idx → BitVec 1 :=
  broadcastInDim S300x4 ![0, 1] bcast_S300x1_S300x4_0_1 (broadcastInDim S300x1 ![0] bcast_S300_S300x1_0
    (cmpi .slt (iotaInDim S300 32 0) (broadcastInDim S300 ![] bcast_S_S300 n)))

/-- The table's places as a column, a negative one counted from the end. -/
abbrev placeCol (w : S300.Idx → BitVec 32) : S300x1.Idx → BitVec 32 :=
  broadcastInDim S300x1 ![0] bcast_S300_S300x1_0
    (select (cmpi .slt w (broadcastInDim S300 ![] bcast_S_S300 (constantI S_ 32 0#32))) (addi w (broadcastInDim S300 ![] bcast_S_S300 (constantI S_ 32 6000#32))) w)

variable (Y : Valuation τ sig (Elt Ideal))

theorem read147 : afterL postI Y (Proc.devRef .tc main_v147)
    = (select (full (Y (Proc.devRef .tc main_v135_11)))
        (Host.gather gather_S6000x4_S300x1_S300x4_1_0_n_n_0_1_14 (Y (Proc.devRef .tc main_v107) : S6000x4.Idx → EReal) (placeCol (Y (Proc.devRef .tc main_v135_10))))
        (broadcastInDim S300x4 ![] bcast_S_S300x4 (constant (F := Ideal) S_ .f32 0x00000000#32)) : S300x4.Idx → EReal) := by
  simp only [postI, afterL_cons, afterL_nil]
  after_reads_simp
  rfl

theorem placeCol_at (w : S300.Idx → BitVec 32) (q : Fin 300) (i : ℕ) (hi : i < 2 ^ 31) (hw : w (ix1 q) = BitVec.ofNat 32 i) :
    placeCol w (ix2 q (0 : Fin 1)) = BitVec.ofNat 32 i := by
  refine (Routing.bcCol (n := 300) _ _ q).trans ?_
  show Scalar.select (IntOp.cmpi .slt (w (ix1 q)) (BitVec.ofNat 32 0)) _ (w (ix1 q)) = _
  rw [hw, Nms.cmpi_slt_small hi (by norm_num)]
  rfl

theorem full_at (n : S_.Idx → BitVec 32) (k : ℕ) (hk : k < 2 ^ 31) (hn : n ix0 = BitVec.ofNat 32 k) (q : Fin 300) (j : Fin 4) :
    full n (ix2 q j) = BitVec.ofBool (decide (q.val < k)) := by
  have hq := q.isLt
  refine (Routing.bcRows (n := 300) (m := 4) _ _ _ q j).trans ?_
  have e : broadcastInDim S300 ![] bcast_S_S300 n (ix1 q) = BitVec.ofNat 32 k := (Routing.bc0 _ _ _).trans hn
  show IntOp.cmpi .slt (BitVec.ofNat 32 q.val) (broadcastInDim S300 ![] bcast_S_S300 n (ix1 q)) = _
  rw [e]
  exact Nms.cmpi_slt_small (by omega) hk

/-- The result when the loop has met the 6000 boxes `s`. -/
theorem final_at (s : ℕ → Fin 4 → EReal) (hs : ∀ (k : Fin 6000) (c : Fin 4), (Y (Proc.devRef .tc main_v107) : S6000x4.Idx → EReal) (ix2 k c) = s k.val c)
    (tb : ∀ q : Fin 300, ∀ i < 6000, kept s i → cnt s i = q.val → (Y (Proc.devRef .tc main_v135_10) : S300.Idx → BitVec 32) (ix1 q) = BitVec.ofNat 32 i)
    (ct : (Y (Proc.devRef .tc main_v135_11) : S_.Idx → BitVec 32) ix0 = BitVec.ofNat 32 (min (cnt s 6000) 300)) :
    (afterL postI Y (Proc.devRef .tc main_v147) : S300x4.Idx → EReal) = fun x => surv s 6016 (x 0).val (x 1) := by
  rw [read147]
  funext x
  obtain ⟨q, j, rfl⟩ : ∃ (q : Fin 300) (j : Fin 4), x = ix2 q j := ⟨x 0, x 1, eq_ix2 (n0 := 300) (n1 := 4) x⟩
  have hq := q.isLt
  have hf := full_at _ _ (by omega) ct q j
  show Scalar.select (full (Y (Proc.devRef .tc main_v135_11)) (ix2 q j)) _ _ = pick s (fun i => s i j) 6016 q.val
  rw [hf]
  by_cases h : q.val < cnt s 6000
  · obtain ⟨i, hi, hk, hc⟩ := exists_kept s 6000 q.val h
    rw [decide_eq_true (show q.val < min (cnt s 6000) 300 by omega), pick_eq s _ (show i < 6016 by omega) hk hc]
    exact (Routing.gather_row (nb := 6000) (B := 4) (n := 300) gather_S6000x4_S300x1_S300x4_1_0_n_n_0_1_14 rfl rfl rfl rfl rfl _ _ q j ⟨i, hi⟩
      (placeCol_at _ _ i (by omega) (tb q i hi hk hc)) (by norm_num)).trans (hs ⟨i, hi⟩ j)
  · rw [decide_eq_false (show ¬ q.val < min (cnt s 6000) 300 by omega), pick_none s _ (by rw [cnt_6000 s (by norm_num)]; omega)]
    exact Ideal.ofBits_zero .f32

variable (m : (ℓ : Loc nD τ sig) → Buf (Elt Ideal) ℓ) (c : Dev nD)

/-- The contents before the score's sort is applied to the boxes. -/
abbrev atSort : Valuation τ sig (Elt Ideal) :=
  after hostOps0_8 (after hostOps0_7 (after hostOps0_6 (after hostOps0_5 (after hostOps0_4 (after hostOps0_3 (after hostOps0_2 (after hostOps0_1 (after hostOps0 (fun b => m (c, b))))))))))

theorem entry_eq : entryContents preI m c = start (atSort m c) := by
  simp only [entryContents, preI, afterL_cons, afterL_nil]

/-- The reference's result, of the boxes in the order of their scores. -/
theorem resR_eq (s : ℕ → Fin 4 → EReal)
    (hs : ∀ (k : Fin 6000) (j : Fin 4), s k.val j = (atSort m c (Proc.devRef .tc main_v81) : S22500x4.Idx → EReal) (ix2 (place (atSort m c (Proc.devRef .tc main_v100)) k) j)) :
    resR m c = fun x => surv s 6016 (x 0).val (x 1) := by
  have h107 : ∀ (k : Fin 6000) (j : Fin 4), (atSort m c (Proc.devRef .tc main_v107) : S6000x4.Idx → EReal) (ix2 k j) = s k.val j :=
    fun k j => (at107 _ k j).trans (hs k j).symm
  have h0 : Inv s 0 (entryContents preI m c) := by
    rw [entry_eq]
    exact inv_start _ s ⟨_, read108 _⟩ h107
  have hI := inv_iterate h0 6000 le_rfl
  have hA := atK_agree m c 6000
  have hC := cond_keeps (atK m 6000 c)
  refine final_at (after condOps (atK m 6000 c)) s (fun k j => ?_) (fun q i hi hk hc => ?_) ?_
  · rw [after_of_writes_sub _ _ condOps_writes (by decide +kernel), atK_keep m c main_v107 (by decide +kernel) 6000, entry_eq, start107]
    exact h107 k j
  · rw [hC main_v135_10 (by decide), hA main_v135_10 (by decide)]
    exact hI.tb q i hi hk hc
  · rw [hC main_v135_11 (by decide), hA main_v135_11 (by decide)]
    exact hI.ct

end Cert.Proof.NmsRef

end
-- ==== Proof.Score.lean ====
/-
  The reference's scores are not negative when the logits are finite, so none is below the score -1 that the kernel gives
  the places it pads with.
-/
module

public import proofs.«01_k».proof.Proof.RPre
public import proofs.«01_k».proof.Proof.Pay
public import Idealize.ShloMosaic.Lib.Pointwise.Reduce

@[expose] public section

set_option maxRecDepth 16384

noncomputable section

namespace Cert.Proof.NmsRef

open Idealize.ShloMosaic Idealize.ShloMosaic.TcCoe Idealize.ShloMosaic.Tactic Idealize.ShloMosaic.StableHlo
open Idealize.SL.Sem
open Cert.ReferenceIdeal Cert.ReferenceIdeal.Gen Cert.ReferenceIdeal.Value

/-! ## Corners of the operations -/

theorem exp_pos {x : EReal} (h : x ≠ ⊥) : 0 < Ideal.exp x := by
  induction x with
  | bot => exact absurd rfl h
  | top => exact EReal.zero_lt_top
  | coe r => exact EReal.coe_pos.2 (Real.exp_pos r)

theorem sub_ne_bot {x y : EReal} (hx : x ≠ ⊥) (hy : y ≠ ⊤) : x - y ≠ ⊥ := by
  rw [sub_eq_add_neg]
  exact EReal.add_ne_bot_iff.2 ⟨hx, fun h => hy (EReal.neg_eq_bot_iff.1 h)⟩

theorem div_nonneg' {x y : EReal} (hx : 0 ≤ x) (hy : 0 < y) : 0 ≤ Ideal.div x y := by
  unfold Ideal.div
  rw [if_neg hy.ne']
  exact mul_nonneg hx (EReal.inv_nonneg_of_nonneg hy.le)

theorem foldl_max_lt {ι : Type} (f : ι → EReal) (hf : ∀ i, f i < ⊤) : ∀ (l : List ι) (a : EReal), a < ⊤ → l.foldl (fun r n => max r (f n)) a < ⊤
  | [], a, ha => ha
  | i :: l, a, ha => foldl_max_lt f hf l _ (max_lt ha (hf i))

theorem bot_word_lt : (Ideal.ofBits .f32 0xFF800000#32 : EReal) < ⊤ := lt_of_le_of_lt Nms.bot_word EReal.zero_lt_top

theorem divf_at (x y : S22500x2.Idx → EReal) (i : S22500x2.Idx) : Host.divf (F := Ideal) (φ := .f32) x y i = Ideal.div (x i) (y i) := rfl

/-! ## The softmax -/

abbrev rowTop (v : S22500x2.Idx → EReal) : S22500.Idx → EReal :=
  maximumf (F := Ideal) (φ := .f32) (broadcastInDim S22500 ![] bcast_S_S22500 (constant (F := Ideal) S_ .f32 0xFF800000#32))
    (Host.reduce (FloatOps.maximumf (F := Ideal) (φ := .f32)) v (constant (F := Ideal) S_ .f32 0xFF800000#32) reducesTo_S22500x2_S22500_d1 h_S_)

abbrev spread (u : S22500.Idx → EReal) : S22500x2.Idx → EReal :=
  broadcastInDim S22500x2 ![0, 1] bcast_S22500x1_S22500x2_0_1 (broadcastInDim S22500x1 ![0] bcast_S22500_S22500x1_0 u)

abbrev weight (v : S22500x2.Idx → EReal) : S22500x2.Idx → EReal := Host.exp (F := Ideal) (φ := .f32) (subf (F := Ideal) (φ := .f32) v (spread (rowTop v)))

abbrev weightSum (v : S22500x2.Idx → EReal) : S22500.Idx → EReal :=
  Host.reduceAdd (F := Ideal) (φ := .f32) (weight v) (constant (F := Ideal) S_ .f32 0x00000000#32) reducesTo_S22500x2_S22500_d1 h_S_

abbrev soft (v : S22500x2.Idx → EReal) : S22500x2.Idx → EReal := Host.divf (F := Ideal) (φ := .f32) (weight v) (spread (weightSum v))

variable {v : S22500x2.Idx → EReal}

theorem rowTop_lt (h : ∀ i, v i < ⊤) (j : S22500.Idx) : rowTop v j < ⊤ :=
  max_lt bot_word_lt (foldl_max_lt (fun n => v (S22500x2.rowMajor.symm n)) (fun _ => h _) _ _ bot_word_lt)

theorem weight_pos (h : ∀ i, v i < ⊤) (h' : ∀ i, v i ≠ ⊥) (p : Fin 22500) (q : Fin 2) : 0 < weight v (ix2 p q) := by
  refine exp_pos (sub_ne_bot (h' _) ?_)
  exact ne_of_lt (lt_of_eq_of_lt (Routing.bcRows (n := 22500) (m := 2) _ _ _ p q) (rowTop_lt h _))

theorem weightSum_pos (h : ∀ i, v i < ⊤) (h' : ∀ i, v i ≠ ⊥) (p : Fin 22500) : 0 < weightSum v (ix1 p) := by
  have e : weightSum v (ix1 p) = Ideal.hostReduceAdd reducesTo_S22500x2_S22500_d1 (weight v) (Ideal.ofBits .f32 0x00000000#32) (ix1 p) := rfl
  rw [e, Ideal.hostReduceAdd_r2_a1, Fin.sum_univ_two, Ideal.ofBits_zero_f32, zero_add]
  exact lt_of_lt_of_le (weight_pos h h' _ 0) (le_add_of_nonneg_right (weight_pos h h' _ 1).le)

theorem soft_nonneg (h : ∀ i, v i < ⊤) (h' : ∀ i, v i ≠ ⊥) (i : S22500x2.Idx) : 0 ≤ soft v i := by
  obtain ⟨p, q, rfl⟩ : ∃ (p : Fin 22500) (q : Fin 2), i = ix2 p q := ⟨i 0, i 1, eq_ix2 (n0 := 22500) (n1 := 2) i⟩
  have e : soft v (ix2 p q) = Ideal.div (weight v (ix2 p q)) (spread (weightSum v) (ix2 p q)) := divf_at _ _ _
  rw [e]
  have hw := weight_pos h h' p q
  have hs : 0 < spread (weightSum v) (ix2 p q) :=
    lt_of_lt_of_eq (weightSum_pos h h' p) (Routing.bcRows (n := 22500) (m := 2) bcast_S22500_S22500x1_0 bcast_S22500x1_S22500x2_0_1 (weightSum v) p q).symm
  generalize weight v (ix2 p q) = x at hw ⊢
  generalize spread (weightSum v) (ix2 p q) = y at hs ⊢
  exact div_nonneg' hw.le hs

/-! ## The scores -/

variable (X : Valuation τ sig (Elt Ideal))

/-- The logits, two to a row. -/
abbrev logits (a : S2500x18.Idx → EReal) : S22500x2.Idx → EReal :=
  shapeCast S22500x2 (transpose S2500x9x2 [0, 2, 1] (shapeCast S2500x2x9 a shapeCasts_S2500x18_S2500x2x9) transposes_S2500x2x9_S2500x9x2_0_2_1) shapeCasts_S2500x9x2_S22500x2

/-- The second of each row. -/
abbrev seconds (w : S22500x2.Idx → EReal) : S22500.Idx → EReal :=
  shapeCast S22500 (extractStridedSlice S2500x9 ![0, 9] (shapeCast S2500x18 (transpose S2500x2x9 [0, 2, 1] (shapeCast S2500x9x2 w shapeCasts_S22500x2_S2500x9x2)
    transposes_S2500x9x2_S2500x2x9_0_2_1) shapeCasts_S2500x2x9_S2500x18) slices_S2500x18_S2500x9_0_9) shapeCasts_S2500x9_S22500

theorem read100 : after hostOps0_8 X (Proc.devRef .tc main_v100) = seconds (soft (logits (X (Proc.devRef .tc main_arg2) : S2500x18.Idx → EReal))) := by
  after_reads_simp
  rfl

theorem score_nonneg (a : S2500x18.Idx → EReal) (ha : X (Proc.devRef .tc main_arg2) = a) (h : ∀ i, a i < ⊤) (h' : ∀ i, a i ≠ ⊥)
    (x : S22500.Idx → EReal) (hx : after hostOps0_8 X (Proc.devRef .tc main_v100) = x) (i : S22500.Idx) : 0 ≤ x i := by
  rw [← hx, read100, ha]
  exact soft_nonneg (fun _ => h _) (fun _ => h' _) _

/-- The padding's score is below them. -/
theorem pad_score : (Ideal.ofBits .f32 0xBF800000#32 : EReal) ≤ 0 := by
  have h : (Ideal.ofBits .f32 0xBF800000#32 : EReal) = -1 := IdealRules.sign_bit.ideal_negOnePat .f32
  rw [h]
  norm_num

/-- A number of finite absolute value is neither infinity. -/
theorem finite_of_abs {x b : EReal} (h : max x (-x) < b) : x < ⊤ ∧ x ≠ ⊥ := by
  have h1 : max x (-x) < ⊤ := lt_of_lt_of_le h le_top
  refine ⟨lt_of_le_of_lt (le_max_left _ _) h1, ?_⟩
  rintro rfl
  exact absurd (lt_of_le_of_lt (le_max_right _ _) h1) (by simp)

end Cert.Proof.NmsRef

end
-- ==== Proof.Equal.lean ====
/-
  The kernel's result is the reference's, on equal arguments with finite logits.
-/
module

public import proofs.«01_k».proof.Proof.Order
public import proofs.«01_k».proof.Proof.KLaunch
public import proofs.«01_k».proof.Proof.Same
public import proofs.«01_k».proof.Proof.RFinal
public import proofs.«01_k».proof.Proof.Score

@[expose] public section

set_option maxRecDepth 16384

noncomputable section

namespace Cert.Proof.Same

open Idealize.ShloMosaic Idealize.ShloMosaic.TcCoe Idealize.ShloMosaic.Tactic Idealize.ShloMosaic.StableHlo
open Idealize.SL.Sem
open Cert.Proof.Nms (srt srt_ord ord padS padB)

variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ)
variable (c : Dev KernelIdeal.nD) (c' : Dev ReferenceIdeal.nD)

theorem atSort_eq : after preA.flatten (fun b => m' (c', b)) = NmsRef.atSort m' c' := by
  simp only [preA, List.flatten_cons, List.flatten_nil, StableHlo.after_append, StableHlo.after_nil]

theorem padS_in (x : KernelIdeal.S22500.Idx → EReal) (i : Fin 22500) : padS x i.val = x (ix1 i) := by
  unfold padS
  exact dif_pos i.isLt

theorem padS_out (x : KernelIdeal.S22500.Idx → EReal) {n : ℕ} (h : 22500 ≤ n) : padS x n = Ideal.ofBits .f32 0xBF800000#32 := by
  unfold padS
  exact dif_neg (not_lt.2 h)

theorem padB_in (b : KernelIdeal.S22500x4.Idx → EReal) (i : Fin 22500) (j : Fin 4) : padB b i.val j = b (ix2 i j) := by
  unfold padB
  exact dif_pos i.isLt

theorem padB_out (b : KernelIdeal.S22500x4.Idx → EReal) {n : ℕ} (h : 22500 ≤ n) (j : Fin 4) : padB b n j = 0 := by
  unfold padB
  exact dif_neg (not_lt.2 h)

/-- Box `k` by rank among the padded places is the box at place `k` of the order, where no score is below the padding's. -/
theorem srt_place (x : ReferenceIdeal.S22500.Idx → EReal) (b : ReferenceIdeal.S22500x4.Idx → EReal) (h : ∀ i, 0 ≤ x i) (k : Fin 6000) (j : Fin 4) :
    srt (padS x) (padB b) k.val j = b (ix2 (NmsRef.place x k) j) := by
  have hk : k.val < 22500 := lt_trans k.isLt (by norm_num)
  have e : srt (padS x) (padB b) k.val j = padB b (ord (fun i : Fin 22500 => x (ix1 i)) ⟨k.val, hk⟩).val j :=
    srt_ord (n := 22500) (fun i : Fin 22500 => x (ix1 i)) (padS x) (by norm_num) (padB b)
      (padS_in x)
      (fun n hn i => le_trans (le_of_eq (padS_out x hn)) (le_trans NmsRef.pad_score (h _)))
      (fun n hn c => padB_out b hn c)
      ⟨k.val, hk⟩ j
  rw [e]
  exact padB_in b _ j

/-- The third argument is unchanged before the sort. -/
theorem arg2_kept (X : Valuation ReferenceIdeal.τ ReferenceIdeal.sig (Elt Ideal)) :
    after ReferenceIdeal.Gen.hostOps0_7 (after ReferenceIdeal.Gen.hostOps0_6 (after ReferenceIdeal.Gen.hostOps0_5 (after ReferenceIdeal.Gen.hostOps0_4
      (after ReferenceIdeal.Gen.hostOps0_3 (after ReferenceIdeal.Gen.hostOps0_2 (after ReferenceIdeal.Gen.hostOps0_1 (after ReferenceIdeal.Gen.hostOps0 X)))))))
        (Proc.devRef .tc ReferenceIdeal.main_arg2) = X (Proc.devRef .tc ReferenceIdeal.main_arg2) := by
  rw [after_of_writes_sub _ _ ReferenceIdeal.Value.hostOps0_7_writes (by decide +kernel), after_of_writes_sub _ _ ReferenceIdeal.Value.hostOps0_6_writes (by decide +kernel),
    after_of_writes_sub _ _ ReferenceIdeal.Value.hostOps0_5_writes (by decide +kernel), after_of_writes_sub _ _ ReferenceIdeal.Value.hostOps0_4_writes (by decide +kernel),
    after_of_writes_sub _ _ ReferenceIdeal.Value.hostOps0_3_writes (by decide +kernel), after_of_writes_sub _ _ ReferenceIdeal.Value.hostOps0_2_writes (by decide +kernel),
    after_of_writes_sub _ _ ReferenceIdeal.Value.hostOps0_1_writes (by decide +kernel), after_of_writes_sub _ _ ReferenceIdeal.Value.hostOps0_writes (by decide +kernel)]

theorem result_same (h0 : m (c, Proc.devRef .tc KernelIdeal.main_arg0) = m' (c', Proc.devRef .tc ReferenceIdeal.main_arg0))
    (h1 : m (c, Proc.devRef .tc KernelIdeal.main_arg1) = m' (c', Proc.devRef .tc ReferenceIdeal.main_arg1))
    (h2 : m (c, Proc.devRef .tc KernelIdeal.main_arg2) = m' (c', Proc.devRef .tc ReferenceIdeal.main_arg2))
    (h3 : m (c, Proc.devRef .tc KernelIdeal.main_arg3) = m' (c', Proc.devRef .tc ReferenceIdeal.main_arg3))
    (a : ReferenceIdeal.S2500x18.Idx → EReal) (ha : m' (c', Proc.devRef .tc ReferenceIdeal.main_arg2) = a) (hlt : ∀ i, a i < ⊤) (hne : ∀ i, a i ≠ ⊥) :
    NmsRef.resR m' c' = Nms.resK m c := by
  refine (NmsRef.resR_eq m' c' (srt (Nms.fgK m c) (Nms.bxK m c)) fun k j => ?_).trans rfl
  have hs := (scores_same m m' c c' h2).trans (congrFun (atSort_eq m' c') _)
  have hb := (boxes_same m m' c c' h0 h1 h3).trans (congrFun (atSort_eq m' c') _)
  unfold Nms.fgK Nms.bxK
  rw [hs, hb]
  exact srt_place _ _ (NmsRef.score_nonneg _ a ((arg2_kept _).trans ha) hlt hne _ rfl) k j

end Cert.Proof.Same

end
-- ==== Proof.lean ====
/-
  The proof of `Cert.Claim`: the frames of the two programs, and the equality of their results.
-/
module

public import proofs.«01_k».proof.Defs
public import proofs.«01_k».proof.Proof.Gen.KernelIdeal
public import proofs.«01_k».proof.Proof.Gen.ReferenceIdeal
public import proofs.«01_k».proof.Proof.KLaunch
public import proofs.«01_k».proof.Proof.RRun
public import proofs.«01_k».proof.Proof.Equal
public import Idealize.ShloMosaic.Adequacy
public import Idealize.ShloMosaic.Init

@[expose] public section

set_option maxRecDepth 16384

noncomputable section

open Idealize.ShloMosaic Idealize.SL.Sem

namespace Cert.Proof

/-- The precondition's one side condition. -/
theorem preFacts : Cert.Pre_scores_finite.Facts := ⟨by decide⟩

/-- What the precondition says of the logits. -/
theorem finite_of_pre [Cert.Pre_scores_finite.Facts] (x0 x1 : Pre_scores_finite.S22500x4.Idx → EReal) (a : Pre_scores_finite.S2500x18.Idx → EReal)
    (x3 : Pre_scores_finite.S2.Idx → BitVec 32) (h : Cert.Pre_scores_finite.fn (F := Ideal) x0 x1 a x3 = fun _ => 1#1) (i : Pre_scores_finite.S2500x18.Idx) :
    a i < ⊤ ∧ a i ≠ ⊥ := by
  have e : BitVec.ofBool (decide (max (a i) (-(a i)) < Ideal.ofBits .f32 0x7F800000#32)) = 1#1 := congrFun h i
  refine NmsRef.finite_of_abs (b := Ideal.ofBits .f32 0x7F800000#32) ?_
  by_contra hn
  rw [decide_eq_false hn] at e
  exact absurd e (by decide)

theorem claim : Cert.Claim :=
  ⟨Cert.KernelIdeal.Gen.facts, Cert.ReferenceIdeal.Gen.facts, preFacts,
    fun m g _ => (θ_run _ _ _).mono (fun _ h => ⟨fun c => (h.1 c).2, h.2⟩) (Nms.kernel_run m g),
    fun m g _ => (θ_run _ _ _).mono (fun _ h => ⟨fun c => (h.1 c).2, h.2⟩) (Nms.kernel_run m g),
    fun m g _ => (θ_run _ _ _).mono (fun _ h => ⟨fun c => (h.1 c).2, h.2⟩) (NmsRef.reference_run m g),
    fun m g _ => (θ_run _ _ _).mono (fun _ h => ⟨fun c => (h.1 c).2, h.2⟩) (NmsRef.reference_run m g),
    fun m g m' g' hp he => ⟨fun c => Nms.resK m c,
      (θ_run _ _ _).mono (fun _ h => h.1) (Nms.kernel_run m g),
      (θ_run _ _ _).mono (fun _ h c => ⟨(h.1 c).1.trans
          (Same.result_same m m' c c (he c).1.symm (he c).2.1.symm (he c).2.2.1.symm (he c).2.2.2.symm _ (he c).2.2.1
            (fun i => (@finite_of_pre preFacts _ _ _ _ (hp c) i).1) (fun i => (@finite_of_pre preFacts _ _ _ _ (hp c) i).2)), (h.1 c).2⟩)
        (NmsRef.reference_run m' g')⟩⟩

end Cert.Proof

end
